-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)) (v2 : (c : Dev Cert.KernelIdeal.nD) → Buf (Elt Ideal) ((c.tc : Thread Cert.KernelIdeal.nD Cert.KernelIdeal.τ).loc Cert.KernelIdeal.main_v9_2)) (v3 : (c : Dev Cert.KernelIdeal.nD) → Buf (Elt Ideal) ((c.tc : Thread Cert.KernelIdeal.nD Cert.KernelIdeal.τ).loc Cert.KernelIdeal.main_v9_3)) (v4 : (c : Dev Cert.KernelIdeal.nD) → Buf (Elt Ideal) ((c.tc : Thread Cert.KernelIdeal.nD Cert.KernelIdeal.τ).loc Cert.KernelIdeal.main_v9_4)) (v5 : (c : Dev Cert.KernelIdeal.nD) → Buf (Elt Ideal) ((c.tc : Thread Cert.KernelIdeal.nD Cert.KernelIdeal.τ).loc Cert.KernelIdeal.main_v9_5)) (v6 : (c : Dev Cert.KernelIdeal.nD) → Buf (Elt Ideal) ((c.tc : Thread Cert.KernelIdeal.nD Cert.KernelIdeal.τ).loc Cert.KernelIdeal.main_v9_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_v9_2) = v2 c
          ∧ r.2.mem ((c.tc : Thread Cert.KernelIdeal.nD Cert.KernelIdeal.τ).loc Cert.KernelIdeal.main_v9_3) = v3 c
          ∧ r.2.mem ((c.tc : Thread Cert.KernelIdeal.nD Cert.KernelIdeal.τ).loc Cert.KernelIdeal.main_v9_4) = v4 c
          ∧ r.2.mem ((c.tc : Thread Cert.KernelIdeal.nD Cert.KernelIdeal.τ).loc Cert.KernelIdeal.main_v9_5) = v5 c
          ∧ r.2.mem ((c.tc : Thread Cert.KernelIdeal.nD Cert.KernelIdeal.τ).loc Cert.KernelIdeal.main_v9_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_v110) = v1 c
          ∧ r.2.mem ((c.tc : Thread Cert.ReferenceIdeal.nD Cert.ReferenceIdeal.τ).loc Cert.ReferenceIdeal.main_v112) = v2 c
          ∧ r.2.mem ((c.tc : Thread Cert.ReferenceIdeal.nD Cert.ReferenceIdeal.τ).loc Cert.ReferenceIdeal.main_v114) = v3 c
          ∧ r.2.mem ((c.tc : Thread Cert.ReferenceIdeal.nD Cert.ReferenceIdeal.τ).loc Cert.ReferenceIdeal.main_v115) = v4 c
          ∧ r.2.mem ((c.tc : Thread Cert.ReferenceIdeal.nD Cert.ReferenceIdeal.τ).loc Cert.ReferenceIdeal.main_v116) = v5 c
          ∧ r.2.mem ((c.tc : Thread Cert.ReferenceIdeal.nD Cert.ReferenceIdeal.τ).loc Cert.ReferenceIdeal.main_v117) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S12x1x3072 : Shape := ⟨3, ![12, 1, 3072]⟩
abbrev S12x1x8x96 : Shape := ⟨4, ![12, 1, 8, 96]⟩
abbrev S12x4096x8x96 : Shape := ⟨4, ![12, 4096, 8, 96]⟩
abbrev S12x4096x8 : Shape := ⟨3, ![12, 4096, 8]⟩
abbrev S12 : Shape := ⟨1, ![12]⟩
abbrev S12x32x4096 : Shape := ⟨3, ![12, 32, 4096]⟩
abbrev S12x32x96 : Shape := ⟨3, ![12, 32, 96]⟩
abbrev S12x8x96 : Shape := ⟨3, ![12, 8, 96]⟩
abbrev S12x8x96x4096 : Shape := ⟨4, ![12, 8, 96, 4096]⟩
abbrev S12x768x4096 : Shape := ⟨3, ![12, 768, 4096]⟩
abbrev S12x8x4096 : Shape := ⟨3, ![12, 8, 4096]⟩
abbrev S12x32x1 : Shape := ⟨3, ![12, 32, 1]⟩
abbrev S12x8x1 : Shape := ⟨3, ![12, 8, 1]⟩
abbrev S1x32x96 : Shape := ⟨3, ![1, 32, 96]⟩
abbrev S1x8x96 : Shape := ⟨3, ![1, 8, 96]⟩
abbrev S1x768x4096 : Shape := ⟨3, ![1, 768, 4096]⟩
abbrev S1x8x4096 : Shape := ⟨3, ![1, 8, 4096]⟩
abbrev S1x32x4096 : Shape := ⟨3, ![1, 32, 4096]⟩
abbrev S1x32x1 : Shape := ⟨3, ![1, 32, 1]⟩
abbrev S1x8x1 : Shape := ⟨3, ![1, 8, 1]⟩
abbrev S32x4096 : Shape := ⟨2, ![32, 4096]⟩
abbrev S1 : Shape := ⟨1, ![1]⟩
abbrev S8x96 : Shape := ⟨2, ![8, 96]⟩
abbrev S8 : Shape := ⟨1, ![8]⟩
abbrev S8x1 : Shape := ⟨2, ![8, 1]⟩
abbrev S32x96 : Shape := ⟨2, ![32, 96]⟩
abbrev S32x768 : Shape := ⟨2, ![32, 768]⟩
abbrev S1x96 : Shape := ⟨2, ![1, 96]⟩
abbrev S32 : Shape := ⟨1, ![32]⟩
abbrev S32x1 : Shape := ⟨2, ![32, 1]⟩
abbrev S1x1 : Shape := ⟨2, ![1, 1]⟩
abbrev S1x768x1024 : Shape := ⟨3, ![1, 768, 1024]⟩
abbrev S768x1024 : Shape := ⟨2, ![768, 1024]⟩
abbrev S32x1024 : Shape := ⟨2, ![32, 1024]⟩
abbrev S1x8x1024 : Shape := ⟨3, ![1, 8, 1024]⟩
abbrev S8x1024 : Shape := ⟨2, ![8, 1024]⟩
abbrev S1x1024 : Shape := ⟨2, ![1, 1024]⟩
abbrev S1x32x1024 : Shape := ⟨3, ![1, 32, 1024]⟩

abbrev nBuf : Space → Nat
  | .hbm => 25
  | .vmem => 31
  | .smem => 1
  | _ => 0

abbrev bufTy : (tb : Table) → Fin (tcTables nBuf tb) → BufTy
  | .hbm, ⟨0, _⟩ => ⟨S12x1x3072, .bf16⟩
  | .hbm, ⟨1, _⟩ => ⟨S12x1x8x96, .bf16⟩
  | .hbm, ⟨2, _⟩ => ⟨S12x1x8x96, .bf16⟩
  | .hbm, ⟨3, _⟩ => ⟨S12x4096x8x96, .i8⟩
  | .hbm, ⟨4, _⟩ => ⟨S12x4096x8, .f32⟩
  | .hbm, ⟨5, _⟩ => ⟨S12x4096x8x96, .i8⟩
  | .hbm, ⟨6, _⟩ => ⟨S12x4096x8, .f32⟩
  | .hbm, ⟨7, _⟩ => ⟨S12, .i32⟩
  | .hbm, ⟨8, _⟩ => ⟨S12x32x4096, .f32⟩
  | .hbm, ⟨9, _⟩ => ⟨S12x32x96, .bf16⟩
  | .hbm, ⟨10, _⟩ => ⟨S12x8x96, .bf16⟩
  | .hbm, ⟨11, _⟩ => ⟨S12x8x96, .bf16⟩
  | .hbm, ⟨12, _⟩ => ⟨S12x8x96x4096, .i8⟩
  | .hbm, ⟨13, _⟩ => ⟨S12x768x4096, .i8⟩
  | .hbm, ⟨14, _⟩ => ⟨S12x8x96x4096, .i8⟩
  | .hbm, ⟨15, _⟩ => ⟨S12x768x4096, .i8⟩
  | .hbm, ⟨16, _⟩ => ⟨S12x8x4096, .f32⟩
  | .hbm, ⟨17, _⟩ => ⟨S12x8x4096, .f32⟩
  | .hbm, ⟨18, _⟩ => ⟨S12x32x96, .bf16⟩
  | .hbm, ⟨19, _⟩ => ⟨S12x32x4096, .f32⟩
  | .hbm, ⟨20, _⟩ => ⟨S12x32x1, .f32⟩
  | .hbm, ⟨21, _⟩ => ⟨S12x8x96, .i8⟩
  | .hbm, ⟨22, _⟩ => ⟨S12x8x1, .f32⟩
  | .hbm, ⟨23, _⟩ => ⟨S12x8x96, .i8⟩
  | .hbm, ⟨24, _⟩ => ⟨S12x8x1, .f32⟩
  | .local _ .vmem, ⟨0, _⟩ => ⟨S1x32x96, .bf16⟩
  | .local _ .vmem, ⟨1, _⟩ => ⟨S1x32x96, .bf16⟩
  | .local _ .vmem, ⟨2, _⟩ => ⟨S1x8x96, .bf16⟩
  | .local _ .vmem, ⟨3, _⟩ => ⟨S1x8x96, .bf16⟩
  | .local _ .vmem, ⟨4, _⟩ => ⟨S1x8x96, .bf16⟩
  | .local _ .vmem, ⟨5, _⟩ => ⟨S1x8x96, .bf16⟩
  | .local _ .vmem, ⟨6, _⟩ => ⟨S1x768x4096, .i8⟩
  | .local _ .vmem, ⟨7, _⟩ => ⟨S1x768x4096, .i8⟩
  | .local _ .vmem, ⟨8, _⟩ => ⟨S1x8x4096, .f32⟩
  | .local _ .vmem, ⟨9, _⟩ => ⟨S1x8x4096, .f32⟩
  | .local _ .vmem, ⟨10, _⟩ => ⟨S1x768x4096, .i8⟩
  | .local _ .vmem, ⟨11, _⟩ => ⟨S1x768x4096, .i8⟩
  | .local _ .vmem, ⟨12, _⟩ => ⟨S1x8x4096, .f32⟩
  | .local _ .vmem, ⟨13, _⟩ => ⟨S1x8x4096, .f32⟩
  | .local _ .vmem, ⟨14, _⟩ => ⟨S1x32x4096, .f32⟩
  | .local _ .vmem, ⟨15, _⟩ => ⟨S1x32x4096, .f32⟩
  | .local _ .vmem, ⟨16, _⟩ => ⟨S1x32x96, .bf16⟩
  | .local _ .vmem, ⟨17, _⟩ => ⟨S1x32x96, .bf16⟩
  | .local _ .vmem, ⟨18, _⟩ => ⟨S1x32x4096, .f32⟩
  | .local _ .vmem, ⟨19, _⟩ => ⟨S1x32x4096, .f32⟩
  | .local _ .vmem, ⟨20, _⟩ => ⟨S1x32x1, .f32⟩
  | .local _ .vmem, ⟨21, _⟩ => ⟨S1x32x1, .f32⟩
  | .local _ .vmem, ⟨22, _⟩ => ⟨S1x8x96, .i8⟩
  | .local _ .vmem, ⟨23, _⟩ => ⟨S1x8x96, .i8⟩
  | .local _ .vmem, ⟨24, _⟩ => ⟨S1x8x1, .f32⟩
  | .local _ .vmem, ⟨25, _⟩ => ⟨S1x8x1, .f32⟩
  | .local _ .vmem, ⟨26, _⟩ => ⟨S1x8x96, .i8⟩
  | .local _ .vmem, ⟨27, _⟩ => ⟨S1x8x96, .i8⟩
  | .local _ .vmem, ⟨28, _⟩ => ⟨S1x8x1, .f32⟩
  | .local _ .vmem, ⟨29, _⟩ => ⟨S1x8x1, .f32⟩
  | .local _ .vmem, ⟨30, _⟩ => ⟨S32x4096, .f32⟩
  | .local _ .smem, ⟨0, _⟩ => ⟨S12, .i32⟩
  | _, _ => ⟨S12x1x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .smem, ⟨0, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev main_v9_2 : Ref sig .tc := ⟨.hbm, 20, rfl⟩
abbrev main_v9_3 : Ref sig .tc := ⟨.hbm, 21, rfl⟩
abbrev main_v9_4 : Ref sig .tc := ⟨.hbm, 22, rfl⟩
abbrev main_v9_5 : Ref sig .tc := ⟨.hbm, 23, rfl⟩
abbrev main_v9_6 : Ref sig .tc := ⟨.hbm, 24, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_scratch0 : Ref sig .tc := ⟨.vmem, 30, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30

abbrev nD : Nat := 1
abbrev τ : Topo := Topo.v7x

variable {F : FTy → Type} [FloatOps F]

abbrev grid0 : Pipeline.Grid := ⟨1, ![12], ![false]⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S12 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x32x96 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x96 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x96 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x768x4096 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x768x4096 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x32x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x32x96 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x32x4096 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x32x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x8x96 .i8 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x8x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x8x96 .i8 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x8x1 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== ReferenceIdeal.lean ====
abbrev S12x1x3072 : Shape := ⟨3, ![12, 1, 3072]⟩
abbrev S12x1x8x96 : Shape := ⟨4, ![12, 1, 8, 96]⟩
abbrev S12x4096x8x96 : Shape := ⟨4, ![12, 4096, 8, 96]⟩
abbrev S12x4096x8 : Shape := ⟨3, ![12, 4096, 8]⟩
abbrev S12 : Shape := ⟨1, ![12]⟩
abbrev S12x32x4096 : Shape := ⟨3, ![12, 32, 4096]⟩
abbrev S_ : Shape := ⟨0, ![]⟩
abbrev S12x1x8 : Shape := ⟨3, ![12, 1, 8]⟩
abbrev S12x1x8x1 : Shape := ⟨4, ![12, 1, 8, 1]⟩
abbrev S12x1x8x4x96 : Shape := ⟨5, ![12, 1, 8, 4, 96]⟩
abbrev S12x8x4096x1x4 : Shape := ⟨5, ![12, 8, 4096, 1, 4]⟩
abbrev S12x1x8x4x4096 : Shape := ⟨5, ![12, 1, 8, 4, 4096]⟩
abbrev S12x8x4096 : Shape := ⟨3, ![12, 8, 4096]⟩
abbrev S12x1x8x1x4096 : Shape := ⟨5, ![12, 1, 8, 1, 4096]⟩
abbrev S4096 : Shape := ⟨1, ![4096]⟩
abbrev S1x4096 : Shape := ⟨2, ![1, 4096]⟩
abbrev S12x1 : Shape := ⟨2, ![12, 1]⟩
abbrev S12x4096 : Shape := ⟨2, ![12, 4096]⟩
abbrev S12x1x1x1x4096 : Shape := ⟨5, ![12, 1, 1, 1, 4096]⟩
abbrev S12x8x1x1x4 : Shape := ⟨5, ![12, 8, 1, 1, 4]⟩
abbrev S12x1x8x4x1 : Shape := ⟨5, ![12, 1, 8, 4, 1]⟩
abbrev S12x8x1 : Shape := ⟨3, ![12, 8, 1]⟩
abbrev S12x1x8x1x1 : Shape := ⟨5, ![12, 1, 8, 1, 1]⟩
abbrev S1 : Shape := ⟨1, ![1]⟩
abbrev S1x1 : Shape := ⟨2, ![1, 1]⟩
abbrev S1x1x1x1x1 : Shape := ⟨5, ![1, 1, 1, 1, 1]⟩
abbrev S12x1x8x4 : Shape := ⟨4, ![12, 1, 8, 4]⟩
abbrev S12x8x96x1x4 : Shape := ⟨5, ![12, 8, 96, 1, 4]⟩
abbrev S12x8x4x4096 : Shape := ⟨4, ![12, 8, 4, 4096]⟩
abbrev S12x8x4x1 : Shape := ⟨4, ![12, 8, 4, 1]⟩
abbrev S12x32x1 : Shape := ⟨3, ![12, 32, 1]⟩
abbrev S12x32x96 : Shape := ⟨3, ![12, 32, 96]⟩
abbrev S12x8x96 : Shape := ⟨3, ![12, 8, 96]⟩

abbrev nBuf : Space → Nat
  | .hbm => 172
  | .vmem => 0
  | .smem => 0
  | _ => 0

abbrev hbmTy0_0 (i : Nat) : BufTy := match i % 128 with
  | 0 => ⟨S12x1x3072, .bf16⟩
  | 1 => ⟨S12x1x8x96, .bf16⟩
  | 2 => ⟨S12x1x8x96, .bf16⟩
  | 3 => ⟨S12x4096x8x96, .i8⟩
  | 4 => ⟨S12x4096x8, .f32⟩
  | 5 => ⟨S12x4096x8x96, .i8⟩
  | 6 => ⟨S12x4096x8, .f32⟩
  | 7 => ⟨S12, .i32⟩
  | 8 => ⟨S12x32x4096, .f32⟩
  | 9 => ⟨S12x1x8x96, .f32⟩
  | 10 => ⟨S12x1x8x96, .f32⟩
  | 11 => ⟨S_, .f32⟩
  | 12 => ⟨S12x1x8, .f32⟩
  | 13 => ⟨S_, .f32⟩
  | 14 => ⟨S12x1x8, .f32⟩
  | 15 => ⟨S12x1x8, .i1⟩
  | 16 => ⟨S_, .f32⟩
  | 17 => ⟨S12x1x8, .f32⟩
  | 18 => ⟨S12x1x8, .f32⟩
  | 19 => ⟨S_, .f32⟩
  | 20 => ⟨S_, .f32⟩
  | 21 => ⟨S12x1x8, .f32⟩
  | 22 => ⟨S12x1x8, .f32⟩
  | 23 => ⟨S12x1x8x1, .f32⟩
  | 24 => ⟨S12x1x8x96, .f32⟩
  | 25 => ⟨S12x1x8x96, .f32⟩
  | 26 => ⟨S12x1x8x96, .f32⟩
  | 27 => ⟨S_, .f32⟩
  | 28 => ⟨S_, .f32⟩
  | 29 => ⟨S_, .f32⟩
  | 30 => ⟨S12x1x8x96, .f32⟩
  | 31 => ⟨S12x1x8x96, .f32⟩
  | 32 => ⟨S_, .f32⟩
  | 33 => ⟨S12x1x8x96, .f32⟩
  | 34 => ⟨S12x1x8x96, .f32⟩
  | 35 => ⟨S12x1x8x96, .i32⟩
  | 36 => ⟨S12x1x8x96, .i8⟩
  | 37 => ⟨S12x1x8x96, .i8⟩
  | 38 => ⟨S12x1x8, .f32⟩
  | 39 => ⟨S12x1x8x96, .f32⟩
  | 40 => ⟨S12x1x8x96, .f32⟩
  | 41 => ⟨S_, .f32⟩
  | 42 => ⟨S12x1x8, .f32⟩
  | 43 => ⟨S_, .f32⟩
  | 44 => ⟨S12x1x8, .f32⟩
  | 45 => ⟨S12x1x8, .i1⟩
  | 46 => ⟨S_, .f32⟩
  | 47 => ⟨S12x1x8, .f32⟩
  | 48 => ⟨S12x1x8, .f32⟩
  | 49 => ⟨S_, .f32⟩
  | 50 => ⟨S_, .f32⟩
  | 51 => ⟨S12x1x8, .f32⟩
  | 52 => ⟨S12x1x8, .f32⟩
  | 53 => ⟨S12x1x8x1, .f32⟩
  | 54 => ⟨S12x1x8x96, .f32⟩
  | 55 => ⟨S12x1x8x96, .f32⟩
  | 56 => ⟨S12x1x8x96, .f32⟩
  | 57 => ⟨S_, .f32⟩
  | 58 => ⟨S_, .f32⟩
  | 59 => ⟨S_, .f32⟩
  | 60 => ⟨S12x1x8x96, .f32⟩
  | 61 => ⟨S12x1x8x96, .f32⟩
  | 62 => ⟨S_, .f32⟩
  | 63 => ⟨S12x1x8x96, .f32⟩
  | 64 => ⟨S12x1x8x96, .f32⟩
  | 65 => ⟨S12x1x8x96, .i32⟩
  | 66 => ⟨S12x1x8x96, .i8⟩
  | 67 => ⟨S12x1x8x96, .i8⟩
  | 68 => ⟨S12x1x8, .f32⟩
  | 69 => ⟨S12x1x8x4x96, .bf16⟩
  | 70 => ⟨S12x4096x8x96, .i32⟩
  | 71 => ⟨S12x4096x8x96, .bf16⟩
  | 72 => ⟨S12x8x4096x1x4, .f32⟩
  | 73 => ⟨S12x1x8x4x4096, .f32⟩
  | 74 => ⟨S12x8x4096, .f32⟩
  | 75 => ⟨S12x1x8x1x4096, .f32⟩
  | 76 => ⟨S12x1x8x4x4096, .f32⟩
  | 77 => ⟨S12x1x8x4x4096, .f32⟩
  | 78 => ⟨S_, .f32⟩
  | 79 => ⟨S12x1x8x4x4096, .f32⟩
  | 80 => ⟨S12x1x8x4x4096, .f32⟩
  | 81 => ⟨S4096, .i32⟩
  | 82 => ⟨S1x4096, .i32⟩
  | 83 => ⟨S12x1, .i32⟩
  | 84 => ⟨S12x4096, .i32⟩
  | 85 => ⟨S12x4096, .i32⟩
  | 86 => ⟨S12x4096, .i1⟩
  | 87 => ⟨S12x1x1x1x4096, .i1⟩
  | 88 => ⟨S_, .f32⟩
  | 89 => ⟨S_, .f32⟩
  | 90 => ⟨S12x1x8x4x4096, .i1⟩
  | 91 => ⟨S12x1x8x4x4096, .f32⟩
  | 92 => ⟨S12x1x8x4x4096, .f32⟩
  | 93 => ⟨S12x1x8x96, .i32⟩
  | 94 => ⟨S12x1x8x96, .bf16⟩
  | 95 => ⟨S12x8x1x1x4, .f32⟩
  | 96 => ⟨S12x1x8x4x1, .f32⟩
  | 97 => ⟨S12x8x1, .f32⟩
  | 98 => ⟨S12x1x8x1x1, .f32⟩
  | 99 => ⟨S12x1x8x4x1, .f32⟩
  | 100 => ⟨S12x1x8x4x1, .f32⟩
  | 101 => ⟨S_, .f32⟩
  | 102 => ⟨S12x1x8x4x1, .f32⟩
  | 103 => ⟨S12x1x8x4x1, .f32⟩
  | 104 => ⟨S1, .i32⟩
  | 105 => ⟨S1x1, .i32⟩
  | 106 => ⟨S1, .i32⟩
  | 107 => ⟨S1x1, .i32⟩
  | 108 => ⟨S1x1, .i1⟩
  | 109 => ⟨S1x1x1x1x1, .i1⟩
  | 110 => ⟨S_, .f32⟩
  | 111 => ⟨S_, .f32⟩
  | 112 => ⟨S12x1x8x4x1, .i1⟩
  | 113 => ⟨S12x1x8x4x1, .f32⟩
  | 114 => ⟨S12x1x8x4x1, .f32⟩
  | 115 => ⟨S_, .f32⟩
  | 116 => ⟨S12x1x8x4, .f32⟩
  | 117 => ⟨S12x1x8x4x1, .f32⟩
  | 118 => ⟨S_, .f32⟩
  | 119 => ⟨S12x1x8x4, .f32⟩
  | 120 => ⟨S12x1x8x4x1, .f32⟩
  | 121 => ⟨S12x1x8x4x1, .f32⟩
  | 122 => ⟨S12x1x8x4x4096, .f32⟩
  | 123 => ⟨S12x1x8x4x4096, .f32⟩
  | 124 => ⟨S12x1x8x4x4096, .f32⟩
  | 125 => ⟨S12x1x8x4x1, .f32⟩
  | 126 => ⟨S12x1x8x4x1, .f32⟩
  | 127 => ⟨S_, .f32⟩
  | _ => ⟨S12x1x3072, .bf16⟩

abbrev hbmTy0_1 (i : Nat) : BufTy := match i % 128 with
  | 0 => ⟨S12x1x8x4, .f32⟩
  | 1 => ⟨S12x1x8x4x1, .f32⟩
  | 2 => ⟨S_, .f32⟩
  | 3 => ⟨S12x1x8x4, .f32⟩
  | 4 => ⟨S12x1x8x4x1, .f32⟩
  | 5 => ⟨S12x1x8x4x1, .f32⟩
  | 6 => ⟨S_, .f32⟩
  | 7 => ⟨S12x1x8x4x1, .f32⟩
  | 8 => ⟨S12x1x8x4x1, .f32⟩
  | 9 => ⟨S12x1x8x4x4096, .f32⟩
  | 10 => ⟨S12x1x8x4x4096, .f32⟩
  | 11 => ⟨S12x1x8x4x1, .f32⟩
  | 12 => ⟨S12x8x4096, .f32⟩
  | 13 => ⟨S12x1x8x1x4096, .f32⟩
  | 14 => ⟨S12x1x8x4x4096, .f32⟩
  | 15 => ⟨S12x1x8x4x4096, .f32⟩
  | 16 => ⟨S12x1x8x4x4096, .bf16⟩
  | 17 => ⟨S12x4096x8x96, .i32⟩
  | 18 => ⟨S12x4096x8x96, .bf16⟩
  | 19 => ⟨S12x8x96x1x4, .f32⟩
  | 20 => ⟨S12x1x8x4x96, .f32⟩
  | 21 => ⟨S12x8x1, .f32⟩
  | 22 => ⟨S12x1x8x1x1, .f32⟩
  | 23 => ⟨S12x1x8x4x1, .f32⟩
  | 24 => ⟨S12x1x8x4x1, .f32⟩
  | 25 => ⟨S12x1x8x4x1, .bf16⟩
  | 26 => ⟨S12x1x8x96, .i32⟩
  | 27 => ⟨S12x1x8x96, .bf16⟩
  | 28 => ⟨S12x8x96x1x4, .f32⟩
  | 29 => ⟨S12x1x8x4x96, .f32⟩
  | 30 => ⟨S12x1x8x4x96, .f32⟩
  | 31 => ⟨S12x1x8x4x96, .bf16⟩
  | 32 => ⟨S_, .f32⟩
  | 33 => ⟨S12x8x4x4096, .f32⟩
  | 34 => ⟨S12x32x4096, .f32⟩
  | 35 => ⟨S12x32x4096, .f32⟩
  | 36 => ⟨S_, .f32⟩
  | 37 => ⟨S12x8x4x1, .f32⟩
  | 38 => ⟨S12x32x1, .f32⟩
  | 39 => ⟨S12x32x96, .bf16⟩
  | 40 => ⟨S12x8x96, .i8⟩
  | 41 => ⟨S12x8x1, .f32⟩
  | 42 => ⟨S12x8x96, .i8⟩
  | 43 => ⟨S12x8x1, .f32⟩
  | _ => ⟨S12x1x3072, .bf16⟩

abbrev hbmTy (i : Nat) : BufTy := match i / 128 with
  | 0 => hbmTy0_0 i
  | 1 => hbmTy0_1 i
  | _ => ⟨S12x1x3072, .bf16⟩

abbrev bufTy : (tb : Table) → Fin (tcTables nBuf tb) → BufTy
  | .hbm, ⟨i, _⟩ => hbmTy i
  | _, _ => ⟨S12x1x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_call0_v0 : Ref sig .tc := ⟨.hbm, 20, rfl⟩
abbrev main_call0_v1 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_3 : Ref sig .tc := ⟨.hbm, 27, rfl⟩
abbrev main_cst_4 : Ref sig .tc := ⟨.hbm, 28, rfl⟩
abbrev main_call2_v0 : Ref sig .tc := ⟨.hbm, 29, rfl⟩
abbrev main_call2_v1 : Ref sig .tc := ⟨.hbm, 30, rfl⟩
abbrev main_call2_v2 : Ref sig .tc := ⟨.hbm, 31, rfl⟩
abbrev main_call2_v3 : Ref sig .tc := ⟨.hbm, 32, rfl⟩
abbrev main_call2_v4 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15_0 : Ref sig .tc := ⟨.hbm, 37, rfl⟩
abbrev main_v15_1 : Ref sig .tc := ⟨.hbm, 38, rfl⟩
abbrev main_v16 : Ref sig .tc := ⟨.hbm, 39, rfl⟩
abbrev main_v17 : Ref sig .tc := ⟨.hbm, 40, rfl⟩
abbrev main_cst_5 : Ref sig .tc := ⟨.hbm, 41, rfl⟩
abbrev main_v18 : Ref sig .tc := ⟨.hbm, 42, rfl⟩
abbrev main_cst_6 : Ref sig .tc := ⟨.hbm, 43, rfl⟩
abbrev main_v19 : Ref sig .tc := ⟨.hbm, 44, rfl⟩
abbrev main_v20 : Ref sig .tc := ⟨.hbm, 45, rfl⟩
abbrev main_cst_7 : Ref sig .tc := ⟨.hbm, 46, rfl⟩
abbrev main_v21 : Ref sig .tc := ⟨.hbm, 47, rfl⟩
abbrev main_v22 : Ref sig .tc := ⟨.hbm, 48, rfl⟩
abbrev main_cst_8 : Ref sig .tc := ⟨.hbm, 49, rfl⟩
abbrev main_call3_v0 : Ref sig .tc := ⟨.hbm, 50, rfl⟩
abbrev main_call3_v1 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_cst_9 : Ref sig .tc := ⟨.hbm, 57, rfl⟩
abbrev main_cst_10 : Ref sig .tc := ⟨.hbm, 58, rfl⟩
abbrev main_call5_v0 : Ref sig .tc := ⟨.hbm, 59, rfl⟩
abbrev main_call5_v1 : Ref sig .tc := ⟨.hbm, 60, rfl⟩
abbrev main_call5_v2 : Ref sig .tc := ⟨.hbm, 61, rfl⟩
abbrev main_call5_v3 : Ref sig .tc := ⟨.hbm, 62, rfl⟩
abbrev main_call5_v4 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31_0 : Ref sig .tc := ⟨.hbm, 67, rfl⟩
abbrev main_v31_1 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_cst_11 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_cst_12 : Ref sig .tc := ⟨.hbm, 88, rfl⟩
abbrev main_call6_v0 : Ref sig .tc := ⟨.hbm, 89, rfl⟩
abbrev main_call6_v1 : Ref sig .tc := ⟨.hbm, 90, rfl⟩
abbrev main_call6_v2 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_cst_13 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_cst_14 : Ref sig .tc := ⟨.hbm, 110, rfl⟩
abbrev main_call7_v0 : Ref sig .tc := ⟨.hbm, 111, rfl⟩
abbrev main_call7_v1 : Ref sig .tc := ⟨.hbm, 112, rfl⟩
abbrev main_call7_v2 : Ref sig .tc := ⟨.hbm, 113, rfl⟩
abbrev main_v67 : Ref sig .tc := ⟨.hbm, 114, rfl⟩
abbrev main_cst_15 : Ref sig .tc := ⟨.hbm, 115, rfl⟩
abbrev main_v68 : Ref sig .tc := ⟨.hbm, 116, rfl⟩
abbrev main_v69 : Ref sig .tc := ⟨.hbm, 117, rfl⟩
abbrev main_cst_16 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_cst_17 : Ref sig .tc := ⟨.hbm, 127, rfl⟩
abbrev main_v78 : Ref sig .tc := ⟨.hbm, 128, rfl⟩
abbrev main_v79 : Ref sig .tc := ⟨.hbm, 129, rfl⟩
abbrev main_cst_18 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_cst_19 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_cst_20 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_cst_21 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩

abbrev nD : Nat := 1
abbrev τ : Topo := Topo.v7x

variable {F : FTy → Type} [FloatOps F]
-- ==== Proof.Spec.lean ====
/- The mathematics of one head of the decode step, over the extended reals, and the four facts about finite sums and maxima that
   relate the kernel's cutting of the past to the sums over all of it. Nothing here mentions a program. -/
module

public import Idealize.ShloMosaic.Lib.Pointwise

@[expose] public section
set_option maxRecDepth 16384
noncomputable section
namespace Cert.Proof
open Idealize.ShloMosaic Idealize.ShloMosaic.TcCoe Idealize.ShloMosaic.Tactic

/-! ### The quantiser -/

/-- The largest absolute value of a row. -/
def amax (x : Fin 96 → EReal) : EReal :=
  Finset.fold max (Ideal.ofBits .f32 0xFF800000#32) (fun d => FloatOps.absf (F := Ideal) (φ := .f32) (x d)) Finset.univ

/-- The scale of a row: its largest absolute value over 127, and 1 for a row of zeros. -/
def scale (x : Fin 96 → EReal) : EReal :=
  if 0 < amax x then Ideal.div (amax x) (Ideal.ofBits .f32 0x42FE0000#32) else 1

/-- The code of an entry, as a number: the entry over the row's scale, rounded to the nearest integer with ties to even, then
    cut to [-127, 127]. -/
def code (x : Fin 96 → EReal) (d : Fin 96) : EReal :=
  min (Ideal.ofBits .f32 0x42FE0000#32)
    (max (Ideal.ofBits .f32 0xC2FE0000#32) (Ideal.liftRound Ideal.roundHalfEven (Ideal.div (x d) (scale x))))

/-- The float constant for minus infinity. -/
theorem ofBits_neg_inf : Ideal.ofBits .f32 0xFF800000#32 = ⊥ := by simp [Ideal.ofBits, Ideal.ieee]
/-- The float constant 127. -/
theorem ofBits_hi : Ideal.ofBits .f32 0x42FE0000#32 = ((127 : ℝ) : EReal) := by
  simp [Ideal.ofBits, Ideal.ieee, -EReal.coe_mul]; norm_num
/-- The float constant -127. -/
theorem ofBits_lo : Ideal.ofBits .f32 0xC2FE0000#32 = ((-127 : ℝ) : EReal) := by
  simp [Ideal.ofBits, Ideal.ieee, -EReal.coe_mul]; norm_num

/-- A code is an integer between -127 and 127, whatever the entry and the scale. -/
theorem code_int (x : Fin 96 → EReal) (d : Fin 96) : ∃ z : ℤ, -127 ≤ z ∧ z ≤ 127 ∧ code x d = ((z : ℝ) : EReal) := by
  unfold code
  rw [ofBits_hi, ofBits_lo]
  generalize Ideal.div (x d) (scale x) = y
  induction y with
  | bot => exact ⟨-127, by norm_num, by norm_num, by
      rw [Ideal.liftRound_bot, max_eq_left bot_le, min_eq_right (EReal.coe_le_coe_iff.2 (by norm_num))]; norm_num⟩
  | top => exact ⟨127, by norm_num, by norm_num, by
      rw [Ideal.liftRound_top, max_eq_right le_top, min_eq_left le_top]; norm_num⟩
  | coe r =>
    refine ⟨min 127 (max (-127) (Ideal.roundHalfEven r)), by omega, by omega, ?_⟩
    rw [Ideal.liftRound_coe]
    push_cast
    rw [EReal.coe_strictMono.monotone.map_min, EReal.coe_strictMono.monotone.map_max, EReal.coe_neg]

/-- Converting a small integer to a signed word keeps it. -/
theorem fptosi_int (w : Nat) (z : ℤ) (h1 : -(2 ^ (w - 1) : Nat) ≤ z) (h2 : z ≤ ((2 ^ (w - 1) : Nat) : ℤ) - 1) :
    Ideal.fptosi w ((z : ℝ) : EReal) = BitVec.ofInt w z := by
  unfold Ideal.fptosi
  rw [Ideal.toIntClamped_coe]
  have h : (if (0 : ℝ) ≤ (z : ℝ) then ⌊(z : ℝ)⌋ else ⌈(z : ℝ)⌉) = z := by split <;> simp
  rw [h, min_eq_right h2, max_eq_right h1]

/-- The code as an 8-bit word, converted directly or through 32 bits: the same word. -/
theorem code_word (x : Fin 96 → EReal) (d : Fin 96) :
    (Ideal.fptosi 32 (code x d)).setWidth 8 = Ideal.fptosi 8 (code x d) := by
  obtain ⟨z, h1, h2, h⟩ := code_int x d
  rw [h, fptosi_int 32 z (by norm_num; omega) (by norm_num; omega), fptosi_int 8 z (by norm_num; omega) (by norm_num; omega)]
  apply BitVec.eq_of_toInt_eq
  simp only [BitVec.toInt_setWidth, BitVec.toNat_ofInt, BitVec.toInt_ofInt]
  have := Int.emod_nonneg z (show (4294967296 : ℤ) ≠ 0 by decide)
  norm_num [Int.bmod]
  omega

/-- The 8-bit word of a code, read back as a number, is the code. -/
theorem code_back (x : Fin 96 → EReal) (d : Fin 96) :
    (((Ideal.fptosi 8 (code x d)).toInt : ℝ) : EReal) = code x d := by
  obtain ⟨z, h1, h2, h⟩ := code_int x d
  rw [h, fptosi_int 8 z (by norm_num; omega) (by norm_num; omega)]
  congr 2
  rw [BitVec.toInt_ofInt, Int.bmod_eq_of_le (by norm_num; omega) (by norm_num; omega)]

/-! ### One head of the decode step -/

/-- What one query head of one sequence reads: its query row, the new key and value rows of its key head, the codes and scales
    of the past keys and values of that head, and the number of past positions in use. -/
structure Head where
  q : Fin 96 → EReal
  kn : Fin 96 → EReal
  vn : Fin 96 → EReal
  K : Fin 96 → Fin 4096 → EReal
  ks : Fin 4096 → EReal
  V : Fin 96 → Fin 4096 → EReal
  vs : Fin 4096 → EReal
  len : BitVec 32

namespace Head
variable (r : Head)

/-- The new position's score. -/
def sNew : EReal := (∑ d, r.q d * code r.kn d) * scale r.kn * Ideal.ofBits .f32 0x3DD105EC#32
/-- A past position's score: minus infinity from the length on. -/
def sc (c : Fin 4096) : EReal :=
  Scalar.select (IntOp.cmpi .slt (BitVec.ofNat 32 c.val) r.len)
    ((∑ d, r.q d * r.K d c) * r.ks c * Ideal.ofBits .f32 0x3DD105EC#32) (Ideal.ofBits .f32 0xFF800000#32)
/-- The largest score. -/
def mx : EReal := max r.sNew (Finset.fold max (Ideal.ofBits .f32 0xFF800000#32) r.sc Finset.univ)
/-- The new position's exponential. -/
def eNew : EReal := Ideal.exp (r.sNew - r.mx)
/-- A past position's exponential. -/
def e (c : Fin 4096) : EReal := Ideal.exp (r.sc c - r.mx)
/-- One over the sum of the exponentials. -/
def inv : EReal := Ideal.div 1 (r.eNew + ∑ c, r.e c)
/-- The probabilities. -/
def pNew : EReal := r.eNew * r.inv
/-- A past position's probability. -/
def p (c : Fin 4096) : EReal := r.e c * r.inv
/-- The attention output. -/
def o (d : Fin 96) : EReal := (∑ c, r.p c * r.vs c * r.V d c) + r.pNew * scale r.vn * code r.vn d

end Head

/-! ### Sums and maxima over the past, by quarters -/

/-- The position `x` of the quarter that starts at `o`. -/
def at4 (o : Nat) (ho : o + 1024 ≤ 4096) (x : Fin 1024) : Fin 4096 := ⟨o + x.val, by omega⟩

/-- A sum over `n + m` positions is the sum over the first `n` and the sum over the rest. -/
theorem sum_split (n m : Nat) (f : Fin (n + m) → EReal) :
    ∑ c, f c = ∑ x : Fin n, f ⟨x.val, by omega⟩ + ∑ x : Fin m, f ⟨n + x.val, by omega⟩ :=
  Fin.sum_univ_add f

/-- A sum over the past positions is the sum over its four quarters. -/
theorem sum_quarters (f : Fin 4096 → EReal) :
    ∑ c, f c = ∑ x, f (at4 0 (by decide) x) + ∑ x, f (at4 1024 (by decide) x) + ∑ x, f (at4 2048 (by decide) x)
      + ∑ x, f (at4 3072 (by decide) x) := by
  refine (sum_split 3072 1024 f).trans (congrArg₂ _ ?_ rfl)
  refine (sum_split 2048 1024 fun x => f ⟨x.val, by omega⟩).trans (congrArg₂ _ ?_ rfl)
  refine (sum_split 1024 1024 fun x => f ⟨x.val, by omega⟩).trans (congrArg₂ _ ?_ rfl)
  exact Finset.sum_congr rfl fun x _ => congrArg f (Fin.ext (Nat.zero_add _).symm)

/-- A maximum taken over one quarter after another is the maximum over all positions. -/
theorem max_quarters (f : Fin 4096 → EReal) (m0 m : EReal)
    (h : m = max (max (max (max m0 (Finset.fold max ⊥ (fun x => f (at4 0 (by decide) x)) Finset.univ))
      (Finset.fold max ⊥ (fun x => f (at4 1024 (by decide) x)) Finset.univ))
      (Finset.fold max ⊥ (fun x => f (at4 2048 (by decide) x)) Finset.univ))
      (Finset.fold max ⊥ (fun x => f (at4 3072 (by decide) x)) Finset.univ)) :
    m = max m0 (Finset.fold max ⊥ f Finset.univ) := by
  rw [h]
  apply eq_of_forall_ge_iff
  intro b
  simp only [max_le_iff, Finset.fold_max_le, bot_le, true_and, Finset.mem_univ, forall_const]
  constructor
  · rintro ⟨⟨⟨⟨h0, h1⟩, h2⟩, h3⟩, h4⟩
    refine ⟨h0, fun c => ?_⟩
    by_cases c1 : c.val < 1024
    · have := h1 ⟨c.val, c1⟩; simpa [at4] using this
    by_cases c2 : c.val < 2048
    · have := h2 ⟨c.val - 1024, by omega⟩
      rwa [show at4 1024 (by decide) ⟨c.val - 1024, by omega⟩ = c from Fin.ext (by simp [at4]; omega)] at this
    by_cases c3 : c.val < 3072
    · have := h3 ⟨c.val - 2048, by omega⟩
      rwa [show at4 2048 (by decide) ⟨c.val - 2048, by omega⟩ = c from Fin.ext (by simp [at4]; omega)] at this
    · have := h4 ⟨c.val - 3072, by omega⟩
      rwa [show at4 3072 (by decide) ⟨c.val - 3072, by omega⟩ = c from Fin.ext (by simp [at4]; omega)] at this
  · rintro ⟨h0, h1⟩
    exact ⟨⟨⟨⟨h0, fun x => h1 _⟩, fun x => h1 _⟩, fun x => h1 _⟩, fun x => h1 _⟩

/-! ### The eight key heads side by side -/

/-- Column `d` of the block of the eight that belongs to key head `g`. -/
def col (g : Fin 8) (d : Fin 96) : Fin 768 := ⟨96 * g.val + d.val, by omega⟩

/-- A sum over the 768 columns whose terms vanish off one key head's block is the sum over that block. -/
theorem sum_block (g : Fin 8) (f : Fin 768 → EReal) (h : ∀ k : Fin 768, k.val / 96 ≠ g.val → f k = 0) :
    ∑ k, f k = ∑ d, f (col g d) := by
  symm
  refine Finset.sum_of_injOn (col g) ?_ ?_ ?_ ?_
  · intro a _ b _ hab
    have := congrArg Fin.val hab
    simp only [col] at this
    exact Fin.ext (by omega)
  · intro a _; simp
  · intro k _ hk
    apply h
    intro hg
    apply hk
    refine ⟨⟨k.val - 96 * g.val, by omega⟩, by simp, Fin.ext ?_⟩
    simp only [col]; omega
  · intro d _; rfl

/-- Of eight values of which all but the `g`-th are zero, the sum is the `g`-th. -/
theorem sum_eight (g : Fin 8) (f : Fin 8 → EReal) (h : ∀ n, n ≠ g → f n = 0) :
    f 0 + f 1 + f 2 + f 3 + f 4 + f 5 + f 6 + f 7 = f g := by
  have : ∑ n, f n = f g := Finset.sum_eq_single g (fun b _ hb => h b hb) (by simp)
  rw [← this]
  simp [Fin.sum_univ_eight]

end Cert.Proof
-- ==== Proof.PerHead.lean ====
/- The kernel's three layout devices read at an index: a row of eight spread over thirty-two heads, the block-diagonal mask of
   the heads against the eight key heads side by side, and the query repeated in every key head's columns. -/
module

public import proofs.«01_k».proof.Proof.Spec
public import Idealize.ShloMosaic.Lib.WordCmp

@[expose] public section
set_option maxRecDepth 16384
noncomputable section
namespace Cert.Proof
open Idealize.ShloMosaic Idealize.ShloMosaic.TcCoe Idealize.ShloMosaic.Tactic

/-- The key head that a query head reads: four query heads share one. -/
def grp (h : Fin 32) : Fin 8 := ⟨h.val / 4, by omega⟩

/-- Eight rows, two to a block of eight heads and the first four of the block taking the first: head `h` gets row `h / 4`. -/
theorem per_head (f : Fin 8 → EReal) (h : Fin 32) :
    (if _ : h.val < 8 then
        Scalar.select (IntOp.cmpi CmpIPredicate.slt (BitVec.ofNat 32 h.val) 4#32) (f 0) (f 1)
      else if _ : h.val - 8 < 8 then
        Scalar.select (IntOp.cmpi CmpIPredicate.slt (BitVec.ofNat 32 (h.val - 8)) 4#32) (f 2) (f 3)
      else if _ : h.val - 8 - 8 < 8 then
        Scalar.select (IntOp.cmpi CmpIPredicate.slt (BitVec.ofNat 32 (h.val - 8 - 8)) 4#32) (f 4) (f 5)
      else
        Scalar.select (IntOp.cmpi CmpIPredicate.slt (BitVec.ofNat 32 (h.val - 8 - 8 - 8)) 4#32) (f 6) (f 7)) = f (grp h) := by
  fin_cases h <;> rfl

/-- Eight copies of a row of 96 side by side: column `k` holds entry `k mod 96`. -/
theorem tiled (f : Fin 96 → EReal) (k : Fin 768) :
    (if h1 : k.val < 96 then f ⟨k.val, h1⟩
      else if h2 : k.val - 96 < 96 then f ⟨k.val - 96, h2⟩
      else if h3 : k.val - 96 - 96 < 96 then f ⟨k.val - 96 - 96, h3⟩
      else if h4 : k.val - 96 - 96 - 96 < 96 then f ⟨k.val - 96 - 96 - 96, h4⟩
      else if h5 : k.val - 96 - 96 - 96 - 96 < 96 then f ⟨k.val - 96 - 96 - 96 - 96, h5⟩
      else if h6 : k.val - 96 - 96 - 96 - 96 - 96 < 96 then f ⟨k.val - 96 - 96 - 96 - 96 - 96, h6⟩
      else if h7 : k.val - 96 - 96 - 96 - 96 - 96 - 96 < 96 then f ⟨k.val - 96 - 96 - 96 - 96 - 96 - 96, h7⟩
      else f ⟨k.val - 96 - 96 - 96 - 96 - 96 - 96 - 96, by omega⟩) = f ⟨k.val % 96, Nat.mod_lt _ (by decide)⟩ := by
  split_ifs <;> exact congrArg f (Fin.ext (by dsimp only; omega))

/-- The test for one key head's block, as a number test. -/
theorem in_block (h : Fin 32) (k : Fin 768) (n a b p q : Nat) (hn : n < 8) (ha : a = 4 * n) (hb : b = 4 * n + 4)
    (hp : p = 96 * n) (hq : q = 96 * n + 96) :
    IntOp.andi (IntOp.andi (IntOp.andi (IntOp.cmpi CmpIPredicate.sge (BitVec.ofNat 32 h.val) (BitVec.ofNat 32 a))
      (IntOp.cmpi CmpIPredicate.slt (BitVec.ofNat 32 h.val) (BitVec.ofNat 32 b)))
      (IntOp.cmpi CmpIPredicate.sge (BitVec.ofNat 32 k.val) (BitVec.ofNat 32 p)))
      (IntOp.cmpi CmpIPredicate.slt (BitVec.ofNat 32 k.val) (BitVec.ofNat 32 q))
      = BitVec.ofBool (decide (h.val / 4 = n ∧ k.val / 96 = n)) := by
  rw [WordCmp.cmpi_sge_ofNat (by norm_num; omega) (by norm_num; omega), WordCmp.cmpi_slt_ofNat (by norm_num; omega) (by norm_num; omega),
    WordCmp.cmpi_sge_ofNat (by norm_num; omega) (by norm_num; omega), WordCmp.cmpi_slt_ofNat (by norm_num; omega) (by norm_num; omega),
    WordCmp.andi_ofBool, WordCmp.andi_ofBool, WordCmp.andi_ofBool]
  simp only [← Bool.decide_and]
  congr 1
  exact decide_eq_decide.2 (by omega)

/-- The eight blocks' tests joined: the column is in the head's own block. -/
theorem any_block (h : Fin 32) (k : Fin 768) :
    IntOp.ori (IntOp.ori (IntOp.ori (IntOp.ori (IntOp.ori (IntOp.ori (IntOp.ori
      (BitVec.ofBool (decide (h.val / 4 = 0 ∧ k.val / 96 = 0))) (BitVec.ofBool (decide (h.val / 4 = 1 ∧ k.val / 96 = 1))))
      (BitVec.ofBool (decide (h.val / 4 = 2 ∧ k.val / 96 = 2)))) (BitVec.ofBool (decide (h.val / 4 = 3 ∧ k.val / 96 = 3))))
      (BitVec.ofBool (decide (h.val / 4 = 4 ∧ k.val / 96 = 4)))) (BitVec.ofBool (decide (h.val / 4 = 5 ∧ k.val / 96 = 5))))
      (BitVec.ofBool (decide (h.val / 4 = 6 ∧ k.val / 96 = 6)))) (BitVec.ofBool (decide (h.val / 4 = 7 ∧ k.val / 96 = 7)))
      = BitVec.ofBool (decide (k.val / 96 = h.val / 4)) := by
  simp only [WordCmp.ori_ofBool, ← Bool.decide_or]
  congr 1
  exact decide_eq_decide.2 (by omega)

end Cert.Proof
-- ==== Proof.Blocks1.lean ====
/- The kernel's grid step read at an index: every value it names, from the quantised new key to the accumulated output, as the
   mathematics of one head (`Head`) of the blocks it was given. -/
module

public import proofs.«01_k».proof.Proof.Gen.KernelIdeal.Value
public import Idealize.ShloMosaic.Lib.Pipeline.ReadBack
public import proofs.«01_k».proof.Proof.PerHead

@[expose] public section
set_option maxRecDepth 16384
noncomputable section
namespace Cert.Proof.Block
open Cert.KernelIdeal Cert.KernelIdeal.Gen Cert.KernelIdeal.Gen.kernelRun0_A
open Idealize.ShloMosaic Idealize.ShloMosaic.TcCoe Idealize.ShloMosaic.Tactic Idealize.SL.Sem

variable (c : Dev nD) (i : grid0.Coords) (arg1 : Memref sig .tc .smem S12 .i32) (h1 : arg1.IsWhole) (arg2 : Memref sig .tc .vmem S1x32x96 .bf16) (h2 : arg2.IsWhole) (arg3 : Memref sig .tc .vmem S1x8x96 .bf16) (h3 : arg3.IsWhole) (arg4 : Memref sig .tc .vmem S1x8x96 .bf16) (h4 : arg4.IsWhole) (arg5 : Memref sig .tc .vmem S1x768x4096 .i8) (h5 : arg5.IsWhole) (arg6 : Memref sig .tc .vmem S1x8x4096 .f32) (h6 : arg6.IsWhole) (arg7 : Memref sig .tc .vmem S1x768x4096 .i8) (h7 : arg7.IsWhole) (arg8 : Memref sig .tc .vmem S1x8x4096 .f32) (h8 : arg8.IsWhole) (arg9 : Memref sig .tc .vmem S1x32x4096 .f32) (h9 : arg9.IsWhole) (arg10 : Memref sig .tc .vmem S1x32x96 .bf16) (h10 : arg10.IsWhole) (arg11 : Memref sig .tc .vmem S1x32x4096 .f32) (h11 : arg11.IsWhole) (arg12 : Memref sig .tc .vmem S1x32x1 .f32) (h12 : arg12.IsWhole) (arg13 : Memref sig .tc .vmem S1x8x96 .i8) (h13 : arg13.IsWhole) (arg14 : Memref sig .tc .vmem S1x8x1 .f32) (h14 : arg14.IsWhole) (arg15 : Memref sig .tc .vmem S1x8x96 .i8) (h15 : arg15.IsWhole) (arg16 : Memref sig .tc .vmem S1x8x1 .f32) (h16 : arg16.IsWhole) (arg17 : Memref sig .tc .vmem S32x4096 .f32) (h17 : arg17.IsWhole) (x0 : Vec Ideal S12 .i32) (x1 : Vec Ideal S1x32x96 .bf16) (x2 : Vec Ideal S1x8x96 .bf16) (x3 : Vec Ideal S1x8x96 .bf16) (x4 : Vec Ideal S1x768x4096 .i8) (x5 : Vec Ideal S1x8x4096 .f32) (x6 : Vec Ideal S1x768x4096 .i8) (x7 : Vec Ideal S1x8x4096 .f32) (x8 : Vec Ideal S1x32x4096 .f32)

/-- The grid step's position among the sequences. -/
def pos (i : grid0.Coords) : Fin 12 := ⟨k0_off1 i 0, by have := k0_off1_inb i 0; simpa using this⟩

/-- What query head `h` reads of the blocks given to a grid step. -/
def hd (h : Fin 32) : Head where
  q d := x1 (ix3 0 h d)
  kn d := x2 (ix3 0 (grp h) d)
  vn d := x3 (ix3 0 (grp h) d)
  K d c := FloatOps.sitofp (F := Ideal) .bf16 (x4 (ix3 0 (col (grp h) d) c))
  ks c := x5 (ix3 0 (grp h) c)
  V d c := FloatOps.sitofp (F := Ideal) .bf16 (x6 (ix3 0 (col (grp h) d) c))
  vs c := x7 (ix3 0 (grp h) c)
  len := x0 (ix1 (pos i))

/-- The zeroth quarter's positions, as the kernel's loads spell them. -/
theorem at0 (x : Fin 1024) (hx : x.val < 4096) : (⟨x.val, hx⟩ : Fin 4096) = at4 0 (by decide) x := Fin.ext (Nat.zero_add _).symm
/-- Any other quarter's positions, as the kernel's loads spell them. -/
theorem at1 (x : Fin 1024) (o : Nat) (ho : o + 1024 ≤ 4096) (hx : o + x.val < 4096) : (⟨o + x.val, hx⟩ : Fin 4096) = at4 o ho x := rfl

/-! ### The length, the quantised new rows and the query -/

/-- The sequence's length. -/
theorem r_at : sl.r (F := Ideal) c i arg1 h1 x0 = x0 (ix1 (pos i)) := by
  unfold sl.r
  rw [View.readAt_eq_ld, h1.read_unread]
  pointwise []
  rfl

/-- The new key's scale. -/
theorem r_1_at (g : Fin 8) : sl.r_1 (F := Ideal) c arg3 h3 x2 (ix2 g 0) = scale fun d => x2 (ix3 0 g d) := by
  unfold sl.r_1
  rw [View.readAt_eq_ld, h3.read_unread]
  pointwise [k0_pay3, k0_pay2]
  rfl

/-- The new key's codes, before they are made integers. -/
theorem r_2_at (g : Fin 8) (d : Fin 96) : sl.r_2 (F := Ideal) c arg3 h3 x2 (ix2 g d) = code (fun d => x2 (ix3 0 g d)) d := by
  unfold sl.r_2
  rw [View.readAt_eq_ld, h3.read_unread]
  pointwise [k0_pay4, k0_pay3, k0_pay2]
  rfl

/-- The new value's scale. -/
theorem r_3_at (g : Fin 8) : sl.r_3 (F := Ideal) c arg4 h4 x3 (ix2 g 0) = scale fun d => x3 (ix3 0 g d) := by
  unfold sl.r_3
  rw [View.readAt_eq_ld, h4.read_unread]
  pointwise [k0_pay6, k0_pay5]
  rfl

/-- The new value's codes, before they are made integers. -/
theorem r_4_at (g : Fin 8) (d : Fin 96) : sl.r_4 (F := Ideal) c arg4 h4 x3 (ix2 g d) = code (fun d => x3 (ix3 0 g d)) d := by
  unfold sl.r_4
  rw [View.readAt_eq_ld, h4.read_unread]
  pointwise [k0_pay7, k0_pay6, k0_pay5]
  rfl

/-- The new key's codes as 8-bit integers. -/
theorem r_5_at (g : Fin 8) (d : Fin 96) :
    sl.r_5 (F := Ideal) c arg3 h3 x2 (ix2 g d) = Ideal.fptosi 8 (code (fun d => x2 (ix3 0 g d)) d) := by
  rw [← r_2_at c arg3 h3 x2 g d]
  rfl

/-- The query. -/
theorem r_6_at (h : Fin 32) (d : Fin 96) : sl.r_6 (F := Ideal) c arg2 h2 x1 (ix2 h d) = x1 (ix3 0 h d) := by
  unfold sl.r_6
  rw [View.readAt_eq_ld, h2.read_unread]
  pointwise [k0_pay13]

/-! ### The block-diagonal mask and query -/

/-- The mask is set where a column belongs to the key head of the query head. -/
theorem r_7_at (h : Fin 32) (k : Fin 768) : sl.r_7 (ix2 h k) = BitVec.ofBool (decide (k.val / 96 = h.val / 4)) := by
  pointwise [sl.r_7, k0_pay18, sl.v117, sl.v57, sl.v58, sl.v108, sl.v116, sl.v113, sl.v114, sl.v110, sl.v102, sl.v96,
    sl.v93, sl.v92, sl.v90, sl.v89, sl.v86, sl.v84, sl.v82, sl.v80, sl.v78, sl.v77, sl.v75, k0_pay14, k0_pay15,
    sl.v104, sl.v101, sl.v98]
  rw [in_block h k 0 0 4 0 96, in_block h k 1 4 8 96 192, in_block h k 2 8 12 192 288, in_block h k 3 12 16 288 384,
    in_block h k 4 16 20 384 480, in_block h k 5 20 24 480 576, in_block h k 6 24 28 576 672, in_block h k 7 28 32 672 768,
    any_block] <;> decide

/-- The block-diagonal query: the query in the columns of its own key head, zero elsewhere. -/
theorem r_8_at (h : Fin 32) (k : Fin 768) :
    sl.r_8 (F := Ideal) c arg2 h2 x1 (ix2 h k)
      = if k.val / 96 = h.val / 4 then x1 (ix3 0 h ⟨k.val % 96, Nat.mod_lt _ (by decide)⟩) else 0 := by
  have e := r_7_at h k
  unfold sl.r_7 at e
  unfold sl.r_8
  pointwise [k0_pay19]
  rw [e, tiled (fun d => sl.r_6 (F := Ideal) c arg2 h2 x1 (ix2 h d)), r_6_at]
  unfold Scalar.select
  by_cases hk : k.val / 96 = h.val / 4 <;> simp [hk]

/-- A product of the block-diagonal query with 768 columns is the query's product with its key head's 96. -/
theorem qdot (h : Fin 32) (f : Fin 768 → EReal) :
    ∑ k, sl.r_8 (F := Ideal) c arg2 h2 x1 (ix2 h k) * f k = ∑ d, x1 (ix3 0 h d) * f (col (grp h) d) := by
  rw [sum_block (grp h)]
  · refine Finset.sum_congr rfl fun d _ => ?_
    rw [r_8_at, if_pos (by show (96 * (h.val / 4) + d.val) / 96 = h.val / 4; omega)]
    refine congrArg (fun z => x1 (ix3 0 h z) * _) (Fin.ext ?_)
    show (96 * (h.val / 4) + d.val) % 96 = d.val
    omega
  · intro k hk
    rw [r_8_at, if_neg (show ¬ k.val / 96 = h.val / 4 from hk), zero_mul]

/-! ### The new position's score -/

/-- The query's product with the new key's codes. -/
theorem r_10_at (h : Fin 32) : sl.r_10 (F := Ideal) c arg2 h2 arg3 h3 x1 x2 (ix2 h 0)
    = ∑ d, x1 (ix3 0 h d) * code (fun d => x2 (ix3 0 (grp h) d)) d := by
  unfold sl.r_10 sl.r_9
  pointwise [k0_pay21, k0_pay20, sl.v158]
  refine Finset.sum_congr rfl fun d _ => ?_
  rw [per_head fun g => sl.r_2 (F := Ideal) c arg3 h3 x2 (ix2 g d), r_6_at, r_2_at]

/-- The new position's score. -/
theorem r_15_at (h : Fin 32) : sl.r_15 (F := Ideal) c arg2 h2 arg3 h3 x1 x2 (ix2 h 0) = (hd i x0 x1 x2 x3 x4 x5 x6 x7 h).sNew := by
  unfold sl.r_15 sl.r_11 sl.r_12 sl.r_13 sl.r_14
  pointwise [k0_pay22, k0_pay23, k0_pay24, k0_pay25, k0_pay26, sl.v199]
  rw [per_head fun g => sl.r_1 (F := Ideal) c arg3 h3 x2 (ix2 g 0), r_10_at, r_1_at]
  rfl

end Cert.Proof.Block
-- ==== Proof.Blocks2.lean ====
/- The kernel's scores of the past, a quarter at a time, and the running maximum over them. -/
module

public import proofs.«01_k».proof.Proof.Blocks1

@[expose] public section
set_option maxRecDepth 16384
noncomputable section
namespace Cert.Proof.Block
open Cert.KernelIdeal Cert.KernelIdeal.Gen Cert.KernelIdeal.Gen.kernelRun0_A
open Idealize.ShloMosaic Idealize.ShloMosaic.TcCoe Idealize.ShloMosaic.Tactic Idealize.SL.Sem

variable (c : Dev nD) (i : grid0.Coords) (arg1 : Memref sig .tc .smem S12 .i32) (h1 : arg1.IsWhole) (arg2 : Memref sig .tc .vmem S1x32x96 .bf16) (h2 : arg2.IsWhole) (arg3 : Memref sig .tc .vmem S1x8x96 .bf16) (h3 : arg3.IsWhole) (arg4 : Memref sig .tc .vmem S1x8x96 .bf16) (h4 : arg4.IsWhole) (arg5 : Memref sig .tc .vmem S1x768x4096 .i8) (h5 : arg5.IsWhole) (arg6 : Memref sig .tc .vmem S1x8x4096 .f32) (h6 : arg6.IsWhole) (arg7 : Memref sig .tc .vmem S1x768x4096 .i8) (h7 : arg7.IsWhole) (arg8 : Memref sig .tc .vmem S1x8x4096 .f32) (h8 : arg8.IsWhole) (arg9 : Memref sig .tc .vmem S1x32x4096 .f32) (h9 : arg9.IsWhole) (arg10 : Memref sig .tc .vmem S1x32x96 .bf16) (h10 : arg10.IsWhole) (arg11 : Memref sig .tc .vmem S1x32x4096 .f32) (h11 : arg11.IsWhole) (arg12 : Memref sig .tc .vmem S1x32x1 .f32) (h12 : arg12.IsWhole) (arg13 : Memref sig .tc .vmem S1x8x96 .i8) (h13 : arg13.IsWhole) (arg14 : Memref sig .tc .vmem S1x8x1 .f32) (h14 : arg14.IsWhole) (arg15 : Memref sig .tc .vmem S1x8x96 .i8) (h15 : arg15.IsWhole) (arg16 : Memref sig .tc .vmem S1x8x1 .f32) (h16 : arg16.IsWhole) (arg17 : Memref sig .tc .vmem S32x4096 .f32) (h17 : arg17.IsWhole) (x0 : Vec Ideal S12 .i32) (x1 : Vec Ideal S1x32x96 .bf16) (x2 : Vec Ideal S1x8x96 .bf16) (x3 : Vec Ideal S1x8x96 .bf16) (x4 : Vec Ideal S1x768x4096 .i8) (x5 : Vec Ideal S1x8x4096 .f32) (x6 : Vec Ideal S1x768x4096 .i8) (x7 : Vec Ideal S1x8x4096 .f32) (x8 : Vec Ideal S1x32x4096 .f32)

/-- A quarter's position numbers: the column number plus the quarter's start. -/
theorem col_word (x : Fin 1024) (o : Nat) (ho : o + 1024 ≤ 4096) :
    IntOp.addi (BitVec.ofNat 32 x.val) (BitVec.ofNat 32 o) = BitVec.ofNat 32 (at4 o ho x).val := by
  show BitVec.ofNat 32 x.val + BitVec.ofNat 32 o = BitVec.ofNat 32 (o + x.val)
  rw [← BitVec.ofNat_add, Nat.add_comm]

/-! ### The products of the query with a quarter of the past keys -/

/-- The query's product with the first quarter of the past keys. -/
theorem r_16_at (h : Fin 32) (x : Fin 1024) : (sl.r_16 (F := Ideal) c arg2 h2 arg5 h5 x1 x4) (ix2 h x)
    = ∑ d, (hd i x0 x1 x2 x3 x4 x5 x6 x7 h).q d * (hd i x0 x1 x2 x3 x4 x5 x6 x7 h).K d (at4 0 (by decide) x) := by
  unfold sl.r_16
  rw [View.readAt_eq_ld, h5.read_unread]
  pointwise [k0_pay27]
  rw [qdot c arg2 h2 x1 h fun k => FloatOps.sitofp (F := Ideal) .bf16 (x4 (ix3 0 k _))]
  simp only [at0]
  rfl

/-- The query's product with the second quarter of the past keys. -/
theorem r_23_at (h : Fin 32) (x : Fin 1024) : (sl.r_23 (F := Ideal) c arg2 h2 arg5 h5 x1 x4) (ix2 h x)
    = ∑ d, (hd i x0 x1 x2 x3 x4 x5 x6 x7 h).q d * (hd i x0 x1 x2 x3 x4 x5 x6 x7 h).K d (at4 1024 (by decide) x) := by
  unfold sl.r_23
  rw [View.readAt_eq_ld, h5.read_unread]
  pointwise [k0_pay36]
  rw [qdot c arg2 h2 x1 h fun k => FloatOps.sitofp (F := Ideal) .bf16 (x4 (ix3 0 k _))]
  rfl

/-- The query's product with the last quarter of the past keys. -/
theorem r_30_at (h : Fin 32) (x : Fin 1024) : (sl.r_30 (F := Ideal) c arg2 h2 arg5 h5 x1 x4) (ix2 h x)
    = ∑ d, (hd i x0 x1 x2 x3 x4 x5 x6 x7 h).q d * (hd i x0 x1 x2 x3 x4 x5 x6 x7 h).K d (at4 3072 (by decide) x) := by
  unfold sl.r_30
  rw [View.readAt_eq_ld, h5.read_unread]
  pointwise [k0_pay48]
  rw [qdot c arg2 h2 x1 h fun k => FloatOps.sitofp (F := Ideal) .bf16 (x4 (ix3 0 k _))]
  rfl

/-! ### The scores -/

/-- The first quarter of the scores. -/
theorem sc_0 (h : Fin 32) (x : Fin 1024) : k0_pay33 (F := Ideal) (sl.r (F := Ideal) c i arg1 h1 x0) (sl.r_16 (F := Ideal) c arg2 h2 arg5 h5 x1 x4) (sl.r_17 (F := Ideal) c arg6 h6 x5) sl.v246 (sl.r_18 (F := Ideal) c arg6 h6 x5) (sl.r_19 (F := Ideal) c arg6 h6 x5) (sl.r_20 (F := Ideal) c arg6 h6 x5) (sl.r_21 (F := Ideal) c arg6 h6 x5) (ix2 h x) = (hd i x0 x1 x2 x3 x4 x5 x6 x7 h).sc (at4 0 (by decide) x) := by
  unfold sl.r_17 sl.r_18 sl.r_19 sl.r_20 sl.r_21
  rw [View.readAt_eq_ld, h6.read_unread, r_at]
  pointwise [k0_pay33, k0_pay28, k0_pay29, k0_pay30, k0_pay31, k0_pay32, sl.v246]
  rw [per_head fun g => x5 (ix3 0 g _), r_16_at c i arg2 h2 arg5 h5 x0 x1 x2 x3 x4 x5 x6 x7, col_word x 0 (by decide)]
  simp only [at0]
  rfl

/-- The second quarter of the scores. -/
theorem sc_1024 (h : Fin 32) (x : Fin 1024) : k0_pay40 (F := Ideal) (sl.r (F := Ideal) c i arg1 h1 x0) (sl.r_23 (F := Ideal) c arg2 h2 arg5 h5 x1 x4) (sl.r_24 (F := Ideal) c arg6 h6 x5) sl.v246 (sl.r_25 (F := Ideal) c arg6 h6 x5) (sl.r_26 (F := Ideal) c arg6 h6 x5) 4#32 (ix2 h x) = (hd i x0 x1 x2 x3 x4 x5 x6 x7 h).sc (at4 1024 (by decide) x) := by
  unfold sl.r_24 sl.r_25 sl.r_26
  rw [View.readAt_eq_ld, h6.read_unread, r_at]
  pointwise [k0_pay40, k0_pay37, k0_pay38, k0_pay39, sl.v246]
  rw [per_head fun g => x5 (ix3 0 g _), r_23_at c i arg2 h2 arg5 h5 x0 x1 x2 x3 x4 x5 x6 x7, col_word x 1024 (by decide)]
  rfl

/-- The third quarter of the scores. -/
theorem sc_2048 (h : Fin 32) (x : Fin 1024) : k0_pay45 (F := Ideal) (sl.r (F := Ideal) c i arg1 h1 x0) (sl.r_28 (F := Ideal) c arg2 h2 arg5 h5 arg6 h6 x1 x4 x5) k0_pay44 (ix2 h x) = (hd i x0 x1 x2 x3 x4 x5 x6 x7 h).sc (at4 2048 (by decide) x) := by
  unfold sl.r_28
  rw [View.readAt_eq_ld, h5.read_unread, View.readAt_eq_ld, h6.read_unread, r_at]
  pointwise [k0_pay45, k0_pay43, k0_pay44]
  rw [per_head fun g => x5 (ix3 0 g _), col_word x 2048 (by decide),
    qdot c arg2 h2 x1 h fun k => FloatOps.sitofp (F := Ideal) .bf16 (x4 (ix3 0 k _))]
  rfl

/-- The last quarter of the scores. -/
theorem sc_3072 (h : Fin 32) (x : Fin 1024) : k0_pay54 (F := Ideal) (sl.r (F := Ideal) c i arg1 h1 x0) (sl.r_30 (F := Ideal) c arg2 h2 arg5 h5 x1 x4) (sl.r_31 (F := Ideal) c arg6 h6 x5) sl.v246 (sl.r_32 (F := Ideal) c arg6 h6 x5) (sl.r_33 (F := Ideal) c arg6 h6 x5) (sl.r_34 (F := Ideal) c arg6 h6 x5) (sl.r_35 (F := Ideal) c arg6 h6 x5) (ix2 h x) = (hd i x0 x1 x2 x3 x4 x5 x6 x7 h).sc (at4 3072 (by decide) x) := by
  unfold sl.r_31 sl.r_32 sl.r_33 sl.r_34 sl.r_35
  rw [View.readAt_eq_ld, h6.read_unread, r_at]
  pointwise [k0_pay54, k0_pay49, k0_pay50, k0_pay51, k0_pay52, k0_pay53, sl.v246]
  rw [per_head fun g => x5 (ix3 0 g _), r_30_at c i arg2 h2 arg5 h5 x0 x1 x2 x3 x4 x5 x6 x7, col_word x 3072 (by decide)]
  rfl

/-! ### The running maximum -/

/-- The largest score of the quarter that starts at `o`. -/
def qmax (o : Nat) (ho : o + 1024 ≤ 4096) (h : Fin 32) : EReal :=
  Finset.fold max ⊥ (fun x => (hd i x0 x1 x2 x3 x4 x5 x6 x7 h).sc (at4 o ho x)) Finset.univ

/-- The largest of the new score and one quarter. -/
theorem r_22_at (h : Fin 32) : (sl.r_22 (F := Ideal) c i arg1 h1 arg2 h2 arg3 h3 arg5 h5 arg6 h6 x0 x1 x2 x4 x5) (ix2 h 0)
    = (max (hd i x0 x1 x2 x3 x4 x5 x6 x7 h).sNew (qmax i x0 x1 x2 x3 x4 x5 x6 x7 0 (by decide) h)) := by
  unfold sl.r_22
  pointwise [k0_pay35]
  simp only [sc_0 c i arg1 h1 arg2 h2 arg5 h5 arg6 h6 x0 x1 x2 x3 x4 x5 x6 x7, r_15_at c i arg2 h2 arg3 h3 x0 x1 x2 x3 x4 x5 x6 x7, ofBits_neg_inf, qmax]

/-- The largest of the new score and two quarters. -/
theorem r_27_at (h : Fin 32) : (sl.r_27 (F := Ideal) c i arg1 h1 arg2 h2 arg3 h3 arg5 h5 arg6 h6 x0 x1 x2 x4 x5) (ix2 h 0)
    = (max (max (hd i x0 x1 x2 x3 x4 x5 x6 x7 h).sNew (qmax i x0 x1 x2 x3 x4 x5 x6 x7 0 (by decide) h)) (qmax i x0 x1 x2 x3 x4 x5 x6 x7 1024 (by decide) h)) := by
  unfold sl.r_27
  pointwise [k0_pay42]
  simp only [sc_1024 c i arg1 h1 arg2 h2 arg5 h5 arg6 h6 x0 x1 x2 x3 x4 x5 x6 x7, r_22_at c i arg1 h1 arg2 h2 arg3 h3 arg5 h5 arg6 h6 x0 x1 x2 x3 x4 x5 x6 x7, ofBits_neg_inf, qmax]

/-- The largest of the new score and three quarters. -/
theorem r_29_at (h : Fin 32) : (sl.r_29 (F := Ideal) c i arg1 h1 arg2 h2 arg3 h3 arg5 h5 arg6 h6 x0 x1 x2 x4 x5) (ix2 h 0)
    = (max (max (max (hd i x0 x1 x2 x3 x4 x5 x6 x7 h).sNew (qmax i x0 x1 x2 x3 x4 x5 x6 x7 0 (by decide) h)) (qmax i x0 x1 x2 x3 x4 x5 x6 x7 1024 (by decide) h)) (qmax i x0 x1 x2 x3 x4 x5 x6 x7 2048 (by decide) h)) := by
  unfold sl.r_29
  pointwise [k0_pay47]
  simp only [sc_2048 c i arg1 h1 arg2 h2 arg5 h5 arg6 h6 x0 x1 x2 x3 x4 x5 x6 x7, r_27_at c i arg1 h1 arg2 h2 arg3 h3 arg5 h5 arg6 h6 x0 x1 x2 x3 x4 x5 x6 x7, ofBits_neg_inf, qmax]

/-- The largest of the new score and four quarters. -/
theorem r_36_at (h : Fin 32) : (sl.r_36 (F := Ideal) c i arg1 h1 arg2 h2 arg3 h3 arg5 h5 arg6 h6 x0 x1 x2 x4 x5) (ix2 h 0)
    = (max (max (max (max (hd i x0 x1 x2 x3 x4 x5 x6 x7 h).sNew (qmax i x0 x1 x2 x3 x4 x5 x6 x7 0 (by decide) h)) (qmax i x0 x1 x2 x3 x4 x5 x6 x7 1024 (by decide) h)) (qmax i x0 x1 x2 x3 x4 x5 x6 x7 2048 (by decide) h)) (qmax i x0 x1 x2 x3 x4 x5 x6 x7 3072 (by decide) h)) := by
  unfold sl.r_36
  pointwise [k0_pay56]
  simp only [sc_3072 c i arg1 h1 arg2 h2 arg5 h5 arg6 h6 x0 x1 x2 x3 x4 x5 x6 x7, r_29_at c i arg1 h1 arg2 h2 arg3 h3 arg5 h5 arg6 h6 x0 x1 x2 x3 x4 x5 x6 x7, ofBits_neg_inf, qmax]

/-- The maximum over all four quarters is the largest score. -/
theorem mx_at (h : Fin 32) : (sl.r_36 (F := Ideal) c i arg1 h1 arg2 h2 arg3 h3 arg5 h5 arg6 h6 x0 x1 x2 x4 x5) (ix2 h 0) = (hd i x0 x1 x2 x3 x4 x5 x6 x7 h).mx := by
  unfold Head.mx
  rw [ofBits_neg_inf]
  exact max_quarters _ _ _ (r_36_at c i arg1 h1 arg2 h2 arg3 h3 arg5 h5 arg6 h6 x0 x1 x2 x3 x4 x5 x6 x7 h)

end Cert.Proof.Block
-- ==== Proof.Blocks3.lean ====
/- The kernel's exponentials, their sum and the probabilities: the scores written to the scratch array and read back a quarter at a
   time, first as scores, then as exponentials. -/
module

public import proofs.«01_k».proof.Proof.Blocks2

@[expose] public section
set_option maxRecDepth 16384
noncomputable section
namespace Cert.Proof.Block
open Cert.KernelIdeal Cert.KernelIdeal.Gen Cert.KernelIdeal.Gen.kernelRun0_A
open Idealize.ShloMosaic Idealize.ShloMosaic.TcCoe Idealize.ShloMosaic.Tactic Idealize.SL.Sem

variable (c : Dev nD) (i : grid0.Coords) (arg1 : Memref sig .tc .smem S12 .i32) (h1 : arg1.IsWhole) (arg2 : Memref sig .tc .vmem S1x32x96 .bf16) (h2 : arg2.IsWhole) (arg3 : Memref sig .tc .vmem S1x8x96 .bf16) (h3 : arg3.IsWhole) (arg4 : Memref sig .tc .vmem S1x8x96 .bf16) (h4 : arg4.IsWhole) (arg5 : Memref sig .tc .vmem S1x768x4096 .i8) (h5 : arg5.IsWhole) (arg6 : Memref sig .tc .vmem S1x8x4096 .f32) (h6 : arg6.IsWhole) (arg7 : Memref sig .tc .vmem S1x768x4096 .i8) (h7 : arg7.IsWhole) (arg8 : Memref sig .tc .vmem S1x8x4096 .f32) (h8 : arg8.IsWhole) (arg9 : Memref sig .tc .vmem S1x32x4096 .f32) (h9 : arg9.IsWhole) (arg10 : Memref sig .tc .vmem S1x32x96 .bf16) (h10 : arg10.IsWhole) (arg11 : Memref sig .tc .vmem S1x32x4096 .f32) (h11 : arg11.IsWhole) (arg12 : Memref sig .tc .vmem S1x32x1 .f32) (h12 : arg12.IsWhole) (arg13 : Memref sig .tc .vmem S1x8x96 .i8) (h13 : arg13.IsWhole) (arg14 : Memref sig .tc .vmem S1x8x1 .f32) (h14 : arg14.IsWhole) (arg15 : Memref sig .tc .vmem S1x8x96 .i8) (h15 : arg15.IsWhole) (arg16 : Memref sig .tc .vmem S1x8x1 .f32) (h16 : arg16.IsWhole) (arg17 : Memref sig .tc .vmem S32x4096 .f32) (h17 : arg17.IsWhole) (x0 : Vec Ideal S12 .i32) (x1 : Vec Ideal S1x32x96 .bf16) (x2 : Vec Ideal S1x8x96 .bf16) (x3 : Vec Ideal S1x8x96 .bf16) (x4 : Vec Ideal S1x768x4096 .i8) (x5 : Vec Ideal S1x8x4096 .f32) (x6 : Vec Ideal S1x768x4096 .i8) (x7 : Vec Ideal S1x8x4096 .f32) (x8 : Vec Ideal S1x32x4096 .f32)

/-! ### The scores read back, and the first quarter's exponentials -/

/-- The first quarter of the scores, read back from the scratch array. -/
theorem v482_at (h : Fin 32) (x : Fin 1024) : (sl.v482 (F := Ideal) c i arg1 h1 arg2 h2 arg5 h5 arg6 h6 arg17 x0 x1 x4 x5) (ix2 h x) = (hd i x0 x1 x2 x3 x4 x5 x6 x7 h).sc (at4 0 (by decide) x) := by
  unfold sl.v482 sl.HS0_4
  rw [View.readCov_skip _ _ _ _ _ (by rfl), View.readCov_skip _ _ _ _ _ (by rfl), View.readCov_skip _ _ _ _ _ (by rfl), View.readCov_cons_toLoadRect]
  pointwise [k0_pay34]
  exact sc_0 c i arg1 h1 arg2 h2 arg5 h5 arg6 h6 x0 x1 x2 x3 x4 x5 x6 x7 h x

/-- The new position's exponential. -/
theorem r_37_at (h : Fin 32) : (sl.r_37 (F := Ideal) c i arg1 h1 arg2 h2 arg3 h3 arg5 h5 arg6 h6 x0 x1 x2 x4 x5) (ix2 h 0) = (hd i x0 x1 x2 x3 x4 x5 x6 x7 h).eNew := by
  have m := mx_at c i arg1 h1 arg2 h2 arg3 h3 arg5 h5 arg6 h6 x0 x1 x2 x3 x4 x5 x6 x7 h
  unfold sl.r_36 at m
  unfold sl.r_37
  pointwise [k0_pay57]
  rw [m, r_15_at c i arg2 h2 arg3 h3 x0 x1 x2 x3 x4 x5 x6 x7]
  rfl

/-- The first quarter of the exponentials. -/
theorem e_0 (h : Fin 32) (x : Fin 1024) : k0_pay58 (F := Ideal) (sl.r (F := Ideal) c i arg1 h1 x0) (sl.r_29 (F := Ideal) c i arg1 h1 arg2 h2 arg3 h3 arg5 h5 arg6 h6 x0 x1 x2 x4 x5) (sl.r_30 (F := Ideal) c arg2 h2 arg5 h5 x1 x4) (sl.r_31 (F := Ideal) c arg6 h6 x5) sl.v246 (sl.r_32 (F := Ideal) c arg6 h6 x5) (sl.r_33 (F := Ideal) c arg6 h6 x5) (sl.r_34 (F := Ideal) c arg6 h6 x5) (sl.r_35 (F := Ideal) c arg6 h6 x5) (sl.v482 (F := Ideal) c i arg1 h1 arg2 h2 arg5 h5 arg6 h6 arg17 x0 x1 x4 x5) (ix2 h x)
    = (hd i x0 x1 x2 x3 x4 x5 x6 x7 h).e (at4 0 (by decide) x) := by
  have m := mx_at c i arg1 h1 arg2 h2 arg3 h3 arg5 h5 arg6 h6 x0 x1 x2 x3 x4 x5 x6 x7 h
  unfold sl.r_36 at m
  pointwise [k0_pay58]
  rw [m, v482_at c i arg1 h1 arg2 h2 arg5 h5 arg6 h6 arg17 x0 x1 x2 x3 x4 x5 x6 x7]
  rfl

/-- The new position's exponential and the first quarter's, added. -/
theorem r_38_at (h : Fin 32) : (sl.r_38 (F := Ideal) c i arg1 h1 arg2 h2 arg3 h3 arg5 h5 arg6 h6 arg17 x0 x1 x2 x4 x5) (ix2 h 0) = (hd i x0 x1 x2 x3 x4 x5 x6 x7 h).eNew + ∑ x, (hd i x0 x1 x2 x3 x4 x5 x6 x7 h).e (at4 0 (by decide) x) := by
  have e := r_37_at c i arg1 h1 arg2 h2 arg3 h3 arg5 h5 arg6 h6 x0 x1 x2 x3 x4 x5 x6 x7 h
  unfold sl.r_37 at e
  unfold sl.r_38
  pointwise [k0_pay60]
  rw [e]
  simp only [e_0 c i arg1 h1 arg2 h2 arg3 h3 arg5 h5 arg6 h6 arg17 x0 x1 x2 x3 x4 x5 x6 x7]

/-- The second quarter of the scores, read back from the scratch array. -/
theorem v492_at (h : Fin 32) (x : Fin 1024) : (sl.v492 (F := Ideal) c i arg1 h1 arg2 h2 arg3 h3 arg5 h5 arg6 h6 arg17 x0 x1 x2 x4 x5) (ix2 h x) = (hd i x0 x1 x2 x3 x4 x5 x6 x7 h).sc (at4 1024 (by decide) x) := by
  unfold sl.v492 sl.HS0_5 sl.HS0_4
  rw [View.readCov_skip _ _ _ _ _ (by rfl), View.readCov_skip _ _ _ _ _ (by rfl), View.readCov_skip _ _ _ _ _ (by rfl), View.readCov_cons_toLoadRect]
  pointwise [k0_pay41]
  exact sc_1024 c i arg1 h1 arg2 h2 arg5 h5 arg6 h6 x0 x1 x2 x3 x4 x5 x6 x7 h x

/-- The second quarter of the exponentials. -/
theorem r_39_at (h : Fin 32) (x : Fin 1024) : (sl.r_39 (F := Ideal) c i arg1 h1 arg2 h2 arg3 h3 arg5 h5 arg6 h6 arg17 x0 x1 x2 x4 x5) (ix2 h x) = (hd i x0 x1 x2 x3 x4 x5 x6 x7 h).e (at4 1024 (by decide) x) := by
  have m := mx_at c i arg1 h1 arg2 h2 arg3 h3 arg5 h5 arg6 h6 x0 x1 x2 x3 x4 x5 x6 x7 h
  unfold sl.r_36 at m
  unfold sl.r_39
  pointwise [k0_pay61]
  rw [m, v492_at c i arg1 h1 arg2 h2 arg3 h3 arg5 h5 arg6 h6 arg17 x0 x1 x2 x3 x4 x5 x6 x7]
  rfl

/-- The third quarter of the scores, read back from the scratch array. -/
theorem v502_at (h : Fin 32) (x : Fin 1024) : (sl.v502 (F := Ideal) c i arg1 h1 arg2 h2 arg3 h3 arg5 h5 arg6 h6 arg17 x0 x1 x2 x4 x5) (ix2 h x) = (hd i x0 x1 x2 x3 x4 x5 x6 x7 h).sc (at4 2048 (by decide) x) := by
  unfold sl.v502 sl.HS0_6 sl.HS0_5 sl.HS0_4
  rw [View.readCov_skip _ _ _ _ _ (by rfl), View.readCov_skip _ _ _ _ _ (by rfl), View.readCov_skip _ _ _ _ _ (by rfl), View.readCov_cons_toLoadRect]
  pointwise [k0_pay46]
  exact sc_2048 c i arg1 h1 arg2 h2 arg5 h5 arg6 h6 x0 x1 x2 x3 x4 x5 x6 x7 h x

/-- The last quarter of the scores, read back from the scratch array. -/
theorem v512_at (h : Fin 32) (x : Fin 1024) : (sl.v512 (F := Ideal) c i arg1 h1 arg2 h2 arg3 h3 arg5 h5 arg6 h6 arg17 x0 x1 x2 x4 x5) (ix2 h x) = (hd i x0 x1 x2 x3 x4 x5 x6 x7 h).sc (at4 3072 (by decide) x) := by
  unfold sl.v512 sl.HS0_7 sl.HS0_6 sl.HS0_5 sl.HS0_4
  rw [View.readCov_skip _ _ _ _ _ (by rfl), View.readCov_skip _ _ _ _ _ (by rfl), View.readCov_skip _ _ _ _ _ (by rfl), View.readCov_cons_toLoadRect]
  pointwise [k0_pay55]
  exact sc_3072 c i arg1 h1 arg2 h2 arg5 h5 arg6 h6 x0 x1 x2 x3 x4 x5 x6 x7 h x

/-- The third quarter of the exponentials. -/
theorem e_2048 (h : Fin 32) (x : Fin 1024) : k0_pay63 (F := Ideal) (sl.r_36 (F := Ideal) c i arg1 h1 arg2 h2 arg3 h3 arg5 h5 arg6 h6 x0 x1 x2 x4 x5) (sl.v502 (F := Ideal) c i arg1 h1 arg2 h2 arg3 h3 arg5 h5 arg6 h6 arg17 x0 x1 x2 x4 x5) (ix2 h x) = (hd i x0 x1 x2 x3 x4 x5 x6 x7 h).e (at4 2048 (by decide) x) := by
  pointwise [k0_pay63]
  rw [mx_at c i arg1 h1 arg2 h2 arg3 h3 arg5 h5 arg6 h6 x0 x1 x2 x3 x4 x5 x6 x7, v502_at c i arg1 h1 arg2 h2 arg3 h3 arg5 h5 arg6 h6 arg17 x0 x1 x2 x3 x4 x5 x6 x7]
  rfl

/-- The last quarter of the exponentials. -/
theorem e_3072 (h : Fin 32) (x : Fin 1024) : k0_pay65 (F := Ideal) (sl.r_36 (F := Ideal) c i arg1 h1 arg2 h2 arg3 h3 arg5 h5 arg6 h6 x0 x1 x2 x4 x5) (sl.v512 (F := Ideal) c i arg1 h1 arg2 h2 arg3 h3 arg5 h5 arg6 h6 arg17 x0 x1 x2 x4 x5) (ix2 h x) = (hd i x0 x1 x2 x3 x4 x5 x6 x7 h).e (at4 3072 (by decide) x) := by
  pointwise [k0_pay65]
  rw [mx_at c i arg1 h1 arg2 h2 arg3 h3 arg5 h5 arg6 h6 x0 x1 x2 x3 x4 x5 x6 x7, v512_at c i arg1 h1 arg2 h2 arg3 h3 arg5 h5 arg6 h6 arg17 x0 x1 x2 x3 x4 x5 x6 x7]
  rfl

/-! ### The sum, its reciprocal and the probabilities -/

/-- The reciprocal of the sum of all exponentials. -/
theorem r_40_at (h : Fin 32) : (sl.r_40 (F := Ideal) c i arg1 h1 arg2 h2 arg3 h3 arg5 h5 arg6 h6 arg17 x0 x1 x2 x4 x5) (ix2 h 0) = (hd i x0 x1 x2 x3 x4 x5 x6 x7 h).inv := by
  unfold sl.r_40
  pointwise [k0_pay67]
  simp only [r_38_at c i arg1 h1 arg2 h2 arg3 h3 arg5 h5 arg6 h6 arg17 x0 x1 x2 x3 x4 x5 x6 x7, r_39_at c i arg1 h1 arg2 h2 arg3 h3 arg5 h5 arg6 h6 arg17 x0 x1 x2 x3 x4 x5 x6 x7, e_2048 c i arg1 h1 arg2 h2 arg3 h3 arg5 h5 arg6 h6 arg17 x0 x1 x2 x3 x4 x5 x6 x7, e_3072 c i arg1 h1 arg2 h2 arg3 h3 arg5 h5 arg6 h6 arg17 x0 x1 x2 x3 x4 x5 x6 x7]
  unfold Head.inv
  rw [sum_quarters]
  simp only [add_assoc]

/-- The new position's probability. -/
theorem r_41_at (h : Fin 32) : (sl.r_41 (F := Ideal) c i arg1 h1 arg2 h2 arg3 h3 arg5 h5 arg6 h6 arg17 x0 x1 x2 x4 x5) (ix2 h 0) = (hd i x0 x1 x2 x3 x4 x5 x6 x7 h).pNew := by
  have e := r_40_at c i arg1 h1 arg2 h2 arg3 h3 arg5 h5 arg6 h6 arg17 x0 x1 x2 x3 x4 x5 x6 x7 h
  unfold sl.r_40 at e
  unfold sl.r_41
  pointwise [k0_pay68]
  rw [e, r_37_at c i arg1 h1 arg2 h2 arg3 h3 arg5 h5 arg6 h6 x0 x1 x2 x3 x4 x5 x6 x7]
  rfl

/-- The new position's probability, as it is stored. -/
theorem newimp_at (h : Fin 32) : k0_pay69 (F := Ideal) (sl.r_36 (F := Ideal) c i arg1 h1 arg2 h2 arg3 h3 arg5 h5 arg6 h6 x0 x1 x2 x4 x5) (sl.r_37 (F := Ideal) c i arg1 h1 arg2 h2 arg3 h3 arg5 h5 arg6 h6 x0 x1 x2 x4 x5) (sl.r_38 (F := Ideal) c i arg1 h1 arg2 h2 arg3 h3 arg5 h5 arg6 h6 arg17 x0 x1 x2 x4 x5) (sl.r_39 (F := Ideal) c i arg1 h1 arg2 h2 arg3 h3 arg5 h5 arg6 h6 arg17 x0 x1 x2 x4 x5) (sl.v502 (F := Ideal) c i arg1 h1 arg2 h2 arg3 h3 arg5 h5 arg6 h6 arg17 x0 x1 x2 x4 x5) (sl.v512 (F := Ideal) c i arg1 h1 arg2 h2 arg3 h3 arg5 h5 arg6 h6 arg17 x0 x1 x2 x4 x5) (ix3 0 h 0) = (hd i x0 x1 x2 x3 x4 x5 x6 x7 h).pNew := by
  rw [← r_41_at c i arg1 h1 arg2 h2 arg3 h3 arg5 h5 arg6 h6 arg17 x0 x1 x2 x3 x4 x5 x6 x7 h]
  unfold sl.r_41
  pointwise [k0_pay69]

/-- The first quarter of the exponentials, read back from the scratch array. -/
theorem v529_at (h : Fin 32) (x : Fin 1024) : (sl.v529 (F := Ideal) c i arg1 h1 arg2 h2 arg3 h3 arg5 h5 arg6 h6 arg17 x0 x1 x2 x4 x5) (ix2 h x) = (hd i x0 x1 x2 x3 x4 x5 x6 x7 h).e (at4 0 (by decide) x) := by
  unfold sl.v529 sl.HS0_8 sl.HS0_7 sl.HS0_6 sl.HS0_5
  rw [View.readCov_skip _ _ _ _ _ (by rfl), View.readCov_skip _ _ _ _ _ (by rfl), View.readCov_skip _ _ _ _ _ (by rfl), View.readCov_cons_toLoadRect]
  pointwise [k0_pay59]
  exact e_0 c i arg1 h1 arg2 h2 arg3 h3 arg5 h5 arg6 h6 arg17 x0 x1 x2 x3 x4 x5 x6 x7 h x

/-- The second quarter of the exponentials, read back from the scratch array. -/
theorem v585_at (h : Fin 32) (x : Fin 1024) : (sl.v585 (F := Ideal) c i arg1 h1 arg2 h2 arg3 h3 arg5 h5 arg6 h6 arg17 x0 x1 x2 x4 x5) (ix2 h x) = (hd i x0 x1 x2 x3 x4 x5 x6 x7 h).e (at4 1024 (by decide) x) := by
  unfold sl.v585 sl.HS0_8 sl.HS0_7 sl.HS0_6
  rw [View.readCov_skip _ _ _ _ _ (by rfl), View.readCov_skip _ _ _ _ _ (by rfl), View.readCov_cons_toLoadRect]
  pointwise [k0_pay62]
  exact r_39_at c i arg1 h1 arg2 h2 arg3 h3 arg5 h5 arg6 h6 arg17 x0 x1 x2 x3 x4 x5 x6 x7 h x

/-- The third quarter of the exponentials, read back from the scratch array. -/
theorem v641_at (h : Fin 32) (x : Fin 1024) : (sl.v641 (F := Ideal) c i arg1 h1 arg2 h2 arg3 h3 arg5 h5 arg6 h6 arg17 x0 x1 x2 x4 x5) (ix2 h x) = (hd i x0 x1 x2 x3 x4 x5 x6 x7 h).e (at4 2048 (by decide) x) := by
  unfold sl.v641 sl.HS0_8 sl.HS0_7
  rw [View.readCov_skip _ _ _ _ _ (by rfl), View.readCov_cons_toLoadRect]
  pointwise [k0_pay64]
  exact e_2048 c i arg1 h1 arg2 h2 arg3 h3 arg5 h5 arg6 h6 arg17 x0 x1 x2 x3 x4 x5 x6 x7 h x

/-- The last quarter of the exponentials, read back from the scratch array. -/
theorem v697_at (h : Fin 32) (x : Fin 1024) : (sl.v697 (F := Ideal) c i arg1 h1 arg2 h2 arg3 h3 arg5 h5 arg6 h6 arg17 x0 x1 x2 x4 x5) (ix2 h x) = (hd i x0 x1 x2 x3 x4 x5 x6 x7 h).e (at4 3072 (by decide) x) := by
  unfold sl.v697 sl.HS0_8
  rw [View.readCov_cons_toLoadRect]
  pointwise [k0_pay66]
  exact e_3072 c i arg1 h1 arg2 h2 arg3 h3 arg5 h5 arg6 h6 arg17 x0 x1 x2 x3 x4 x5 x6 x7 h x

/-- The second quarter of the probabilities. -/
theorem r_45_at (h : Fin 32) (x : Fin 1024) : (sl.r_45 (F := Ideal) c i arg1 h1 arg2 h2 arg3 h3 arg5 h5 arg6 h6 arg17 x0 x1 x2 x4 x5) (ix2 h x) = (hd i x0 x1 x2 x3 x4 x5 x6 x7 h).p (at4 1024 (by decide) x) := by
  unfold sl.r_45
  pointwise [k0_pay75]
  rw [r_40_at c i arg1 h1 arg2 h2 arg3 h3 arg5 h5 arg6 h6 arg17 x0 x1 x2 x3 x4 x5 x6 x7, v585_at c i arg1 h1 arg2 h2 arg3 h3 arg5 h5 arg6 h6 arg17 x0 x1 x2 x3 x4 x5 x6 x7]
  rfl

/-- The third quarter of the probabilities. -/
theorem r_52_at (h : Fin 32) (x : Fin 1024) : (sl.r_52 (F := Ideal) c i arg1 h1 arg2 h2 arg3 h3 arg5 h5 arg6 h6 arg17 x0 x1 x2 x4 x5) (ix2 h x) = (hd i x0 x1 x2 x3 x4 x5 x6 x7 h).p (at4 2048 (by decide) x) := by
  unfold sl.r_52
  pointwise [k0_pay84]
  rw [r_40_at c i arg1 h1 arg2 h2 arg3 h3 arg5 h5 arg6 h6 arg17 x0 x1 x2 x3 x4 x5 x6 x7, v641_at c i arg1 h1 arg2 h2 arg3 h3 arg5 h5 arg6 h6 arg17 x0 x1 x2 x3 x4 x5 x6 x7]
  rfl

/-- The last quarter of the probabilities. -/
theorem r_57_at (h : Fin 32) (x : Fin 1024) : (sl.r_57 (F := Ideal) c i arg1 h1 arg2 h2 arg3 h3 arg5 h5 arg6 h6 arg17 x0 x1 x2 x4 x5) (ix2 h x) = (hd i x0 x1 x2 x3 x4 x5 x6 x7 h).p (at4 3072 (by decide) x) := by
  unfold sl.r_57
  pointwise [k0_pay90]
  rw [r_40_at c i arg1 h1 arg2 h2 arg3 h3 arg5 h5 arg6 h6 arg17 x0 x1 x2 x3 x4 x5 x6 x7, v697_at c i arg1 h1 arg2 h2 arg3 h3 arg5 h5 arg6 h6 arg17 x0 x1 x2 x3 x4 x5 x6 x7]
  rfl

/-- The first quarter of the probabilities. -/
theorem r_42_at (h : Fin 32) (x : Fin 1024) : (sl.r_42 (F := Ideal) c i arg1 h1 arg2 h2 arg3 h3 arg5 h5 arg6 h6 arg17 x0 x1 x2 x4 x5) (ix2 h x) = (hd i x0 x1 x2 x3 x4 x5 x6 x7 h).p (at4 0 (by decide) x) := by
  have e := r_40_at c i arg1 h1 arg2 h2 arg3 h3 arg5 h5 arg6 h6 arg17 x0 x1 x2 x3 x4 x5 x6 x7 h
  unfold sl.r_40 at e
  unfold sl.r_42
  pointwise [k0_pay71]
  rw [e, v529_at c i arg1 h1 arg2 h2 arg3 h3 arg5 h5 arg6 h6 arg17 x0 x1 x2 x3 x4 x5 x6 x7]
  rfl

end Cert.Proof.Block
-- ==== Proof.Blocks4.lean ====
/- The kernel's products of the probabilities with the past values, accumulated over the quarters, and the output of one grid step. -/
module

public import proofs.«01_k».proof.Proof.Blocks3

@[expose] public section
set_option maxRecDepth 16384
noncomputable section
namespace Cert.Proof.Block
open Cert.KernelIdeal Cert.KernelIdeal.Gen Cert.KernelIdeal.Gen.kernelRun0_A
open Idealize.ShloMosaic Idealize.ShloMosaic.TcCoe Idealize.ShloMosaic.Tactic Idealize.SL.Sem

variable (c : Dev nD) (i : grid0.Coords) (arg1 : Memref sig .tc .smem S12 .i32) (h1 : arg1.IsWhole) (arg2 : Memref sig .tc .vmem S1x32x96 .bf16) (h2 : arg2.IsWhole) (arg3 : Memref sig .tc .vmem S1x8x96 .bf16) (h3 : arg3.IsWhole) (arg4 : Memref sig .tc .vmem S1x8x96 .bf16) (h4 : arg4.IsWhole) (arg5 : Memref sig .tc .vmem S1x768x4096 .i8) (h5 : arg5.IsWhole) (arg6 : Memref sig .tc .vmem S1x8x4096 .f32) (h6 : arg6.IsWhole) (arg7 : Memref sig .tc .vmem S1x768x4096 .i8) (h7 : arg7.IsWhole) (arg8 : Memref sig .tc .vmem S1x8x4096 .f32) (h8 : arg8.IsWhole) (arg9 : Memref sig .tc .vmem S1x32x4096 .f32) (h9 : arg9.IsWhole) (arg10 : Memref sig .tc .vmem S1x32x96 .bf16) (h10 : arg10.IsWhole) (arg11 : Memref sig .tc .vmem S1x32x4096 .f32) (h11 : arg11.IsWhole) (arg12 : Memref sig .tc .vmem S1x32x1 .f32) (h12 : arg12.IsWhole) (arg13 : Memref sig .tc .vmem S1x8x96 .i8) (h13 : arg13.IsWhole) (arg14 : Memref sig .tc .vmem S1x8x1 .f32) (h14 : arg14.IsWhole) (arg15 : Memref sig .tc .vmem S1x8x96 .i8) (h15 : arg15.IsWhole) (arg16 : Memref sig .tc .vmem S1x8x1 .f32) (h16 : arg16.IsWhole) (arg17 : Memref sig .tc .vmem S32x4096 .f32) (h17 : arg17.IsWhole) (x0 : Vec Ideal S12 .i32) (x1 : Vec Ideal S1x32x96 .bf16) (x2 : Vec Ideal S1x8x96 .bf16) (x3 : Vec Ideal S1x8x96 .bf16) (x4 : Vec Ideal S1x768x4096 .i8) (x5 : Vec Ideal S1x8x4096 .f32) (x6 : Vec Ideal S1x768x4096 .i8) (x7 : Vec Ideal S1x8x4096 .f32) (x8 : Vec Ideal S1x32x4096 .f32)

/-- One quarter's product of head `h`'s scaled probabilities with column `k` of the past values' codes. -/
def part (o : Nat) (ho : o + 1024 ≤ 4096) (h : Fin 32) (k : Fin 768) : EReal :=
  ∑ x, (hd i x0 x1 x2 x3 x4 x5 x6 x7 h).p (at4 o ho x) * (hd i x0 x1 x2 x3 x4 x5 x6 x7 h).vs (at4 o ho x) * FloatOps.sitofp (F := Ideal) .bf16 (x6 (ix3 0 k (at4 o ho x)))

/-- The first quarter of the probabilities, times the past values' scales. -/
theorem r_43_at (h : Fin 32) (x : Fin 1024) : (sl.r_43 (F := Ideal) c i arg1 h1 arg2 h2 arg3 h3 arg5 h5 arg6 h6 arg8 h8 arg17 x0 x1 x2 x4 x5 x7) (ix2 h x)
    = (hd i x0 x1 x2 x3 x4 x5 x6 x7 h).p (at4 0 (by decide) x) * (hd i x0 x1 x2 x3 x4 x5 x6 x7 h).vs (at4 0 (by decide) x) := by
  unfold sl.r_43
  rw [View.readAt_eq_ld, h8.read_unread]
  pointwise [k0_pay73]
  rw [per_head fun g => x7 (ix3 0 g _), r_42_at c i arg1 h1 arg2 h2 arg3 h3 arg5 h5 arg6 h6 arg17 x0 x1 x2 x3 x4 x5 x6 x7]
  simp only [at0]
  rfl

/-- The product of the first quarter with the past values. -/
theorem r_44_at (h : Fin 32) (k : Fin 768) : (sl.r_44 (F := Ideal) c i arg1 h1 arg2 h2 arg3 h3 arg5 h5 arg6 h6 arg7 h7 arg8 h8 arg17 x0 x1 x2 x4 x5 x6 x7) (ix2 h k) = part i x0 x1 x2 x3 x4 x5 x6 x7 0 (by decide) h k := by
  unfold sl.r_44
  rw [View.readAt_eq_ld, h7.read_unread]
  pointwise [k0_pay74, k0_pay70]
  simp only [r_43_at c i arg1 h1 arg2 h2 arg3 h3 arg5 h5 arg6 h6 arg8 h8 arg17 x0 x1 x2 x3 x4 x5 x6 x7, at0]
  rfl

/-- The products of two quarters, added. -/
theorem r_51_at (h : Fin 32) (k : Fin 768) : (sl.r_51 (F := Ideal) c i arg1 h1 arg2 h2 arg3 h3 arg5 h5 arg6 h6 arg7 h7 arg8 h8 arg17 x0 x1 x2 x4 x5 x6 x7) (ix2 h k)
    = part i x0 x1 x2 x3 x4 x5 x6 x7 0 (by decide) h k + part i x0 x1 x2 x3 x4 x5 x6 x7 1024 (by decide) h k := by
  unfold sl.r_51 sl.r_46 sl.r_47 sl.r_48 sl.r_49 sl.r_50
  rw [View.readAt_eq_ld, h8.read_unread, View.readAt_eq_ld, h7.read_unread]
  pointwise [k0_pay83, k0_pay82, k0_pay81, k0_pay80, k0_pay79, k0_pay78, k0_pay77, sl.v246]
  simp only [r_44_at c i arg1 h1 arg2 h2 arg3 h3 arg5 h5 arg6 h6 arg7 h7 arg8 h8 arg17 x0 x1 x2 x3 x4 x5 x6 x7, r_45_at c i arg1 h1 arg2 h2 arg3 h3 arg5 h5 arg6 h6 arg17 x0 x1 x2 x3 x4 x5 x6 x7]
  refine congrArg₂ (fun a b : EReal => a + b) rfl (Finset.sum_congr rfl fun x _ => ?_)
  rw [per_head fun g => x7 (ix3 0 g _)]
  rfl

/-- The products of three quarters, added. -/
theorem r_56_at (h : Fin 32) (k : Fin 768) : (sl.r_56 (F := Ideal) c i arg1 h1 arg2 h2 arg3 h3 arg5 h5 arg6 h6 arg7 h7 arg8 h8 arg17 x0 x1 x2 x4 x5 x6 x7) (ix2 h k)
    = part i x0 x1 x2 x3 x4 x5 x6 x7 0 (by decide) h k + part i x0 x1 x2 x3 x4 x5 x6 x7 1024 (by decide) h k + part i x0 x1 x2 x3 x4 x5 x6 x7 2048 (by decide) h k := by
  unfold sl.r_56 sl.r_53 sl.r_54 sl.r_55
  rw [View.readAt_eq_ld, h8.read_unread, View.readAt_eq_ld, h7.read_unread]
  pointwise [k0_pay89, k0_pay88, k0_pay87, k0_pay86, sl.v246]
  simp only [r_51_at c i arg1 h1 arg2 h2 arg3 h3 arg5 h5 arg6 h6 arg7 h7 arg8 h8 arg17 x0 x1 x2 x3 x4 x5 x6 x7, r_52_at c i arg1 h1 arg2 h2 arg3 h3 arg5 h5 arg6 h6 arg17 x0 x1 x2 x3 x4 x5 x6 x7]
  refine congrArg₂ (fun a b : EReal => a + b) rfl (Finset.sum_congr rfl fun x _ => ?_)
  rw [per_head fun g => x7 (ix3 0 g _)]
  rfl

/-- The accumulated product, kept only in the columns of the head's own key head. -/
theorem r_58_at (h : Fin 32) (k : Fin 768) : (sl.r_58 (F := Ideal) c i arg1 h1 arg2 h2 arg3 h3 arg5 h5 arg6 h6 arg7 h7 arg8 h8 arg17 x0 x1 x2 x4 x5 x6 x7) (ix2 h k)
    = if k.val / 96 = h.val / 4 then
        part i x0 x1 x2 x3 x4 x5 x6 x7 0 (by decide) h k + part i x0 x1 x2 x3 x4 x5 x6 x7 1024 (by decide) h k + part i x0 x1 x2 x3 x4 x5 x6 x7 2048 (by decide) h k
          + part i x0 x1 x2 x3 x4 x5 x6 x7 3072 (by decide) h k
      else 0 := by
  have e := r_7_at h k
  unfold sl.r_58
  rw [View.readAt_eq_ld, h8.read_unread, View.readAt_eq_ld, h7.read_unread]
  pointwise [k0_pay92]
  rw [e]
  simp only [r_56_at c i arg1 h1 arg2 h2 arg3 h3 arg5 h5 arg6 h6 arg7 h7 arg8 h8 arg17 x0 x1 x2 x3 x4 x5 x6 x7, r_57_at c i arg1 h1 arg2 h2 arg3 h3 arg5 h5 arg6 h6 arg17 x0 x1 x2 x3 x4 x5 x6 x7]
  have s : ∀ (z : EReal), Scalar.select (BitVec.ofBool (decide (k.val / 96 = h.val / 4))) z 0 = if k.val / 96 = h.val / 4 then z else 0 := by
    intro z
    unfold Scalar.select
    by_cases hk : k.val / 96 = h.val / 4 <;> simp [hk]
  rw [s]
  by_cases hk : k.val / 96 = h.val / 4
  swap
  · rw [if_neg hk, if_neg hk]
  rw [if_pos hk, if_pos hk]
  refine congrArg₂ (fun a b : EReal => a + b) rfl (Finset.sum_congr rfl fun x _ => ?_)
  rw [per_head fun g => x7 (ix3 0 g _)]
  rfl

/-- The eight column blocks added: only the head's own is not zero, and it is the sum over all past positions. -/
theorem r_60_at (h : Fin 32) (d : Fin 96) : (sl.r_60 (F := Ideal) c i arg1 h1 arg2 h2 arg3 h3 arg5 h5 arg6 h6 arg7 h7 arg8 h8 arg17 x0 x1 x2 x4 x5 x6 x7) (ix2 h d)
    = ∑ c, (hd i x0 x1 x2 x3 x4 x5 x6 x7 h).p c * (hd i x0 x1 x2 x3 x4 x5 x6 x7 h).vs c * (hd i x0 x1 x2 x3 x4 x5 x6 x7 h).V d c := by
  have e : ∀ n : Fin 8, n ≠ grp h → (sl.r_58 (F := Ideal) c i arg1 h1 arg2 h2 arg3 h3 arg5 h5 arg6 h6 arg7 h7 arg8 h8 arg17 x0 x1 x2 x4 x5 x6 x7) (ix2 h (col n d)) = 0 := by
    intro n hn
    rw [r_58_at c i arg1 h1 arg2 h2 arg3 h3 arg5 h5 arg6 h6 arg7 h7 arg8 h8 arg17 x0 x1 x2 x3 x4 x5 x6 x7, if_neg]
    intro hk
    refine hn (Fin.ext ?_)
    have : (96 * n.val + d.val) / 96 = h.val / 4 := hk
    show n.val = h.val / 4
    omega
  have hc : (96 * (h.val / 4) + d.val) / 96 = h.val / 4 := by omega
  have z : (sl.r_58 (F := Ideal) c i arg1 h1 arg2 h2 arg3 h3 arg5 h5 arg6 h6 arg7 h7 arg8 h8 arg17 x0 x1 x2 x4 x5 x6 x7) (ix2 h (col 0 d)) + (sl.r_58 (F := Ideal) c i arg1 h1 arg2 h2 arg3 h3 arg5 h5 arg6 h6 arg7 h7 arg8 h8 arg17 x0 x1 x2 x4 x5 x6 x7) (ix2 h (col 1 d)) + (sl.r_58 (F := Ideal) c i arg1 h1 arg2 h2 arg3 h3 arg5 h5 arg6 h6 arg7 h7 arg8 h8 arg17 x0 x1 x2 x4 x5 x6 x7) (ix2 h (col 2 d)) + (sl.r_58 (F := Ideal) c i arg1 h1 arg2 h2 arg3 h3 arg5 h5 arg6 h6 arg7 h7 arg8 h8 arg17 x0 x1 x2 x4 x5 x6 x7) (ix2 h (col 3 d))
      + (sl.r_58 (F := Ideal) c i arg1 h1 arg2 h2 arg3 h3 arg5 h5 arg6 h6 arg7 h7 arg8 h8 arg17 x0 x1 x2 x4 x5 x6 x7) (ix2 h (col 4 d)) + (sl.r_58 (F := Ideal) c i arg1 h1 arg2 h2 arg3 h3 arg5 h5 arg6 h6 arg7 h7 arg8 h8 arg17 x0 x1 x2 x4 x5 x6 x7) (ix2 h (col 5 d)) + (sl.r_58 (F := Ideal) c i arg1 h1 arg2 h2 arg3 h3 arg5 h5 arg6 h6 arg7 h7 arg8 h8 arg17 x0 x1 x2 x4 x5 x6 x7) (ix2 h (col 6 d)) + (sl.r_58 (F := Ideal) c i arg1 h1 arg2 h2 arg3 h3 arg5 h5 arg6 h6 arg7 h7 arg8 h8 arg17 x0 x1 x2 x4 x5 x6 x7) (ix2 h (col 7 d))
      = ∑ c, (hd i x0 x1 x2 x3 x4 x5 x6 x7 h).p c * (hd i x0 x1 x2 x3 x4 x5 x6 x7 h).vs c * (hd i x0 x1 x2 x3 x4 x5 x6 x7 h).V d c := by
    rw [sum_eight (grp h) (fun n => (sl.r_58 (F := Ideal) c i arg1 h1 arg2 h2 arg3 h3 arg5 h5 arg6 h6 arg7 h7 arg8 h8 arg17 x0 x1 x2 x4 x5 x6 x7) (ix2 h (col n d))) e, r_58_at c i arg1 h1 arg2 h2 arg3 h3 arg5 h5 arg6 h6 arg7 h7 arg8 h8 arg17 x0 x1 x2 x3 x4 x5 x6 x7,
      if_pos (show (col (grp h) d).val / 96 = h.val / 4 from hc), sum_quarters]
    rfl
  rw [← z]
  unfold sl.r_60 sl.r_59
  have e0 : (⟨d.val, by omega⟩ : Fin 768) = col 0 d := Fin.ext (by show d.val = 96 * 0 + d.val; omega)
  pointwise [k0_pay94, k0_pay93]
  unfold sl.r_58
  rw [e0]
  rfl

/-! ### The new position's product -/

/-- The new position's probability times the new value's scale. -/
theorem r_61_at (h : Fin 32) : (sl.r_61 (F := Ideal) c i arg1 h1 arg2 h2 arg3 h3 arg4 h4 arg5 h5 arg6 h6 arg17 x0 x1 x2 x3 x4 x5) (ix2 h 0) = (hd i x0 x1 x2 x3 x4 x5 x6 x7 h).pNew * scale (hd i x0 x1 x2 x3 x4 x5 x6 x7 h).vn := by
  unfold sl.r_61
  pointwise [k0_pay95]
  rw [per_head fun g => sl.r_3 (F := Ideal) c arg4 h4 x3 (ix2 g 0), r_41_at c i arg1 h1 arg2 h2 arg3 h3 arg5 h5 arg6 h6 arg17 x0 x1 x2 x3 x4 x5 x6 x7, r_3_at]
  rfl

/-- The new value's codes, for each query head. -/
theorem r_62_at (h : Fin 32) (d : Fin 96) : (sl.r_62 (F := Ideal) c arg4 h4 x3) (ix2 h d) = code (hd i x0 x1 x2 x3 x4 x5 x6 x7 h).vn d := by
  unfold sl.r_62
  pointwise [k0_pay96, sl.v158]
  rw [per_head fun g => sl.r_4 (F := Ideal) c arg4 h4 x3 (ix2 g d), r_4_at]
  rfl

/-- The new position's probability times the new value's scale, in every column. -/
theorem r_63_at (h : Fin 32) (d : Fin 96) : (sl.r_63 (F := Ideal) c i arg1 h1 arg2 h2 arg3 h3 arg4 h4 arg5 h5 arg6 h6 arg17 x0 x1 x2 x3 x4 x5) (ix2 h d) = (hd i x0 x1 x2 x3 x4 x5 x6 x7 h).pNew * scale (hd i x0 x1 x2 x3 x4 x5 x6 x7 h).vn := by
  rw [← r_61_at c i arg1 h1 arg2 h2 arg3 h3 arg4 h4 arg5 h5 arg6 h6 arg17 x0 x1 x2 x3 x4 x5 x6 x7 h]
  unfold sl.r_63
  pointwise [k0_pay97]

/-- The output of one grid step. -/
theorem out_at (h : Fin 32) (d : Fin 96) : k0_pay1 (F := Ideal) (sl.r_60 (F := Ideal) c i arg1 h1 arg2 h2 arg3 h3 arg5 h5 arg6 h6 arg7 h7 arg8 h8 arg17 x0 x1 x2 x4 x5 x6 x7) (sl.r_62 (F := Ideal) c arg4 h4 x3) (sl.r_63 (F := Ideal) c i arg1 h1 arg2 h2 arg3 h3 arg4 h4 arg5 h5 arg6 h6 arg17 x0 x1 x2 x3 x4 x5) (ix3 0 h d) = (hd i x0 x1 x2 x3 x4 x5 x6 x7 h).o d := by
  pointwise [k0_pay1]
  rw [r_60_at c i arg1 h1 arg2 h2 arg3 h3 arg5 h5 arg6 h6 arg7 h7 arg8 h8 arg17 x0 x1 x2 x3 x4 x5 x6 x7, r_62_at c i arg4 h4 x0 x1 x2 x3 x4 x5 x6 x7, r_63_at c i arg1 h1 arg2 h2 arg3 h3 arg4 h4 arg5 h5 arg6 h6 arg17 x0 x1 x2 x3 x4 x5 x6 x7]
  rfl

end Cert.Proof.Block
-- ==== Proof.Blocks5.lean ====
/- What one grid step leaves in each of its seven output blocks, at an index. -/
module

public import proofs.«01_k».proof.Proof.Blocks4

@[expose] public section
set_option maxRecDepth 16384
noncomputable section
namespace Cert.Proof.Block
open Cert.KernelIdeal Cert.KernelIdeal.Gen Cert.KernelIdeal.Gen.kernelRun0_A
open Idealize.ShloMosaic Idealize.ShloMosaic.TcCoe Idealize.ShloMosaic.Tactic Idealize.SL.Sem

variable (c : Dev nD) (i : grid0.Coords) (arg1 : Memref sig .tc .smem S12 .i32) (h1 : arg1.IsWhole) (arg2 : Memref sig .tc .vmem S1x32x96 .bf16) (h2 : arg2.IsWhole) (arg3 : Memref sig .tc .vmem S1x8x96 .bf16) (h3 : arg3.IsWhole) (arg4 : Memref sig .tc .vmem S1x8x96 .bf16) (h4 : arg4.IsWhole) (arg5 : Memref sig .tc .vmem S1x768x4096 .i8) (h5 : arg5.IsWhole) (arg6 : Memref sig .tc .vmem S1x8x4096 .f32) (h6 : arg6.IsWhole) (arg7 : Memref sig .tc .vmem S1x768x4096 .i8) (h7 : arg7.IsWhole) (arg8 : Memref sig .tc .vmem S1x8x4096 .f32) (h8 : arg8.IsWhole) (arg9 : Memref sig .tc .vmem S1x32x4096 .f32) (h9 : arg9.IsWhole) (arg10 : Memref sig .tc .vmem S1x32x96 .bf16) (h10 : arg10.IsWhole) (arg11 : Memref sig .tc .vmem S1x32x4096 .f32) (h11 : arg11.IsWhole) (arg12 : Memref sig .tc .vmem S1x32x1 .f32) (h12 : arg12.IsWhole) (arg13 : Memref sig .tc .vmem S1x8x96 .i8) (h13 : arg13.IsWhole) (arg14 : Memref sig .tc .vmem S1x8x1 .f32) (h14 : arg14.IsWhole) (arg15 : Memref sig .tc .vmem S1x8x96 .i8) (h15 : arg15.IsWhole) (arg16 : Memref sig .tc .vmem S1x8x1 .f32) (h16 : arg16.IsWhole) (arg17 : Memref sig .tc .vmem S32x4096 .f32) (h17 : arg17.IsWhole) (x0 : Vec Ideal S12 .i32) (x1 : Vec Ideal S1x32x96 .bf16) (x2 : Vec Ideal S1x8x96 .bf16) (x3 : Vec Ideal S1x8x96 .bf16) (x4 : Vec Ideal S1x768x4096 .i8) (x5 : Vec Ideal S1x8x4096 .f32) (x6 : Vec Ideal S1x768x4096 .i8) (x7 : Vec Ideal S1x8x4096 .f32) (x8 : Vec Ideal S1x32x4096 .f32)

/-- The zero offset, written out. -/
theorem hz3 : (![0, 0, 0] : Fin 3 → Nat) = fun _ => 0 := funext fun a => by fin_cases a <;> rfl

/-- The attention output. -/
theorem out9_at (h : Fin 32) (d : Fin 96) : out0_A_9 (F := Ideal) c i arg1 h1 arg2 h2 arg3 h3 arg4 h4 arg5 h5 arg6 h6 arg7 h7 arg8 h8 arg9 h9 arg10 h10 arg11 h11 arg12 h12 arg13 h13 arg14 h14 arg15 h15 arg16 h16 arg17 h17 x0 x1 x2 x3 x4 x5 x6 x7 x8 (ix3 0 h d) = (hd i x0 x1 x2 x3 x4 x5 x6 x7 h).o d := by
  unfold out0_A_9
  rw [View.read_writes_junk_eq_canon]
  unfold kernelRun0_A
  dsimp only
  rw [View.canon_unit_zero hz3]
  exact out_at c i arg1 h1 arg2 h2 arg3 h3 arg4 h4 arg5 h5 arg6 h6 arg7 h7 arg8 h8 arg17 x0 x1 x2 x3 x4 x5 x6 x7 h d

/-- The quarter of the importances that starts at `o` is the positions from `o` on. -/
theorem quarter_emb (o : Nat) (ho : o + 1024 ≤ 4096) (h : Fin 32) (x : Fin 1024)
    (inb : ∀ a, (![0, 0, o] : Fin 3 → Nat) a + S1x32x1024.size a ≤ S1x32x4096.size a) :
    (Rect.unit (s := S1x32x4096) ![0, 0, o] S1x32x1024.size inb).emb (ix3 0 h x) = ix3 0 h (at4 o ho x) := by
  funext a; apply Fin.ext
  match a with
  | ⟨0, _⟩ => rfl
  | ⟨1, _⟩ => show 0 + 1 * h.val = h.val; omega
  | ⟨2, _⟩ => show o + 1 * x.val = o + x.val; omega

/-- The last quarter of the updated importances. -/
theorem imp_3072 (h : Fin 32) (x : Fin 1024) (inb : ∀ a, (![0, 0, 3072] : Fin 3 → Nat) a + S1x32x1024.size a ≤ S1x32x4096.size a) :
    k0_pay91 (F := Ideal) (sl.r_40 (F := Ideal) c i arg1 h1 arg2 h2 arg3 h3 arg5 h5 arg6 h6 arg17 x0 x1 x2 x4 x5) (sl.v697 (F := Ideal) c i arg1 h1 arg2 h2 arg3 h3 arg5 h5 arg6 h6 arg17 x0 x1 x2 x4 x5) (View.readAt (Elt Ideal) arg9.view (Rect.unit (s := S1x32x4096) ![0, 0, 3072] S1x32x1024.size inb).toLoadRect (h9.unread x8)) (ix3 0 h x)
    = x8 (ix3 0 h (at4 3072 (by decide) x)) + (hd i x0 x1 x2 x3 x4 x5 x6 x7 h).p (at4 3072 (by decide) x) := by
  rw [View.readAt_eq_ld, h9.read_unread]
  pointwise [k0_pay91, k0_pay90]
  rw [r_40_at c i arg1 h1 arg2 h2 arg3 h3 arg5 h5 arg6 h6 arg17 x0 x1 x2 x3 x4 x5 x6 x7, v697_at c i arg1 h1 arg2 h2 arg3 h3 arg5 h5 arg6 h6 arg17 x0 x1 x2 x3 x4 x5 x6 x7]
  rfl

/-- The third quarter of the updated importances. -/
theorem imp_2048 (h : Fin 32) (x : Fin 1024) (inb : ∀ a, (![0, 0, 2048] : Fin 3 → Nat) a + S1x32x1024.size a ≤ S1x32x4096.size a) :
    k0_pay85 (F := Ideal) (sl.r_40 (F := Ideal) c i arg1 h1 arg2 h2 arg3 h3 arg5 h5 arg6 h6 arg17 x0 x1 x2 x4 x5) (sl.v641 (F := Ideal) c i arg1 h1 arg2 h2 arg3 h3 arg5 h5 arg6 h6 arg17 x0 x1 x2 x4 x5) (View.readAt (Elt Ideal) arg9.view (Rect.unit (s := S1x32x4096) ![0, 0, 2048] S1x32x1024.size inb).toLoadRect (h9.unread x8)) (ix3 0 h x)
    = x8 (ix3 0 h (at4 2048 (by decide) x)) + (hd i x0 x1 x2 x3 x4 x5 x6 x7 h).p (at4 2048 (by decide) x) := by
  rw [View.readAt_eq_ld, h9.read_unread]
  pointwise [k0_pay85, k0_pay84]
  rw [r_40_at c i arg1 h1 arg2 h2 arg3 h3 arg5 h5 arg6 h6 arg17 x0 x1 x2 x3 x4 x5 x6 x7, v641_at c i arg1 h1 arg2 h2 arg3 h3 arg5 h5 arg6 h6 arg17 x0 x1 x2 x3 x4 x5 x6 x7]
  rfl

/-- The second quarter of the updated importances. -/
theorem imp_1024 (h : Fin 32) (x : Fin 1024) (inb : ∀ a, (![0, 0, 1024] : Fin 3 → Nat) a + S1x32x1024.size a ≤ S1x32x4096.size a) :
    k0_pay76 (F := Ideal) (sl.r_40 (F := Ideal) c i arg1 h1 arg2 h2 arg3 h3 arg5 h5 arg6 h6 arg17 x0 x1 x2 x4 x5) (sl.v585 (F := Ideal) c i arg1 h1 arg2 h2 arg3 h3 arg5 h5 arg6 h6 arg17 x0 x1 x2 x4 x5) (View.readAt (Elt Ideal) arg9.view (Rect.unit (s := S1x32x4096) ![0, 0, 1024] S1x32x1024.size inb).toLoadRect (h9.unread x8)) (ix3 0 h x)
    = x8 (ix3 0 h (at4 1024 (by decide) x)) + (hd i x0 x1 x2 x3 x4 x5 x6 x7 h).p (at4 1024 (by decide) x) := by
  rw [View.readAt_eq_ld, h9.read_unread]
  pointwise [k0_pay76, k0_pay75]
  rw [r_40_at c i arg1 h1 arg2 h2 arg3 h3 arg5 h5 arg6 h6 arg17 x0 x1 x2 x3 x4 x5 x6 x7, v585_at c i arg1 h1 arg2 h2 arg3 h3 arg5 h5 arg6 h6 arg17 x0 x1 x2 x3 x4 x5 x6 x7]
  rfl

/-- The first quarter of the updated importances. -/
theorem imp_0 (h : Fin 32) (x : Fin 1024) (inb : ∀ a, (![0, 0, 0] : Fin 3 → Nat) a + S1x32x1024.size a ≤ S1x32x4096.size a) :
    k0_pay72 (F := Ideal) (sl.r_42 (F := Ideal) c i arg1 h1 arg2 h2 arg3 h3 arg5 h5 arg6 h6 arg17 x0 x1 x2 x4 x5) (View.readAt (Elt Ideal) arg9.view (Rect.unit (s := S1x32x4096) ![0, 0, 0] S1x32x1024.size inb).toLoadRect (h9.unread x8)) (ix3 0 h x)
    = x8 (ix3 0 h (at4 0 (by decide) x)) + (hd i x0 x1 x2 x3 x4 x5 x6 x7 h).p (at4 0 (by decide) x) := by
  rw [View.readAt_eq_ld, h9.read_unread]
  pointwise [k0_pay72]
  rw [r_42_at c i arg1 h1 arg2 h2 arg3 h3 arg5 h5 arg6 h6 arg17 x0 x1 x2 x3 x4 x5 x6 x7]
  simp only [at0]

/-- Every past position is in one of the four quarters. -/
theorem quarter_cases (y : Fin 4096) : (∃ x, y = at4 0 (by decide) x) ∨ (∃ x, y = at4 1024 (by decide) x)
    ∨ (∃ x, y = at4 2048 (by decide) x) ∨ (∃ x, y = at4 3072 (by decide) x) := by
  by_cases h1 : y.val < 1024
  · exact .inl ⟨⟨y.val, h1⟩, Fin.ext (Nat.zero_add _).symm⟩
  by_cases h2 : y.val < 2048
  · exact .inr (.inl ⟨⟨y.val - 1024, by omega⟩, Fin.ext (by show y.val = 1024 + (y.val - 1024); omega)⟩)
  by_cases h3 : y.val < 3072
  · exact .inr (.inr (.inl ⟨⟨y.val - 2048, by omega⟩, Fin.ext (by show y.val = 2048 + (y.val - 2048); omega)⟩))
  · exact .inr (.inr (.inr ⟨⟨y.val - 3072, by omega⟩, Fin.ext (by show y.val = 3072 + (y.val - 3072); omega)⟩))

/-- A quarter's position is not in another quarter. -/
theorem quarter_not_mem (o o' : Nat) (ho : o + 1024 ≤ 4096) (hne : o + 1024 ≤ o' ∨ o' + 1024 ≤ o) (h : Fin 32) (x : Fin 1024)
    (inb : ∀ a, (![0, 0, o'] : Fin 3 → Nat) a + S1x32x1024.size a ≤ S1x32x4096.size a) :
    ix3 0 h (at4 o ho x) ∉ (Rect.unit (s := S1x32x4096) ![0, 0, o'] S1x32x1024.size inb).set := by
  intro hm
  obtain ⟨j, hj, he⟩ := (LoadRect.mem_set _).mp hm (2 : Fin 3)
  have hj' : j < 1024 := hj
  have he' : o + x.val = o' + 1 * j := he
  have := x.isLt
  omega

/-- A position in the quarter stored last holds what was stored. -/
theorem canon_quarter (o : Nat) (ho : o + 1024 ≤ 4096) (h : Fin 32) (x : Fin 1024)
    (inb : ∀ a, (![0, 0, o] : Fin 3 → Nat) a + S1x32x1024.size a ≤ S1x32x4096.size a) (w : Vec Ideal S1x32x1024 .f32)
    (L : List (View.Piece (Elt Ideal) S1x32x4096 .f32)) :
    View.canon ((⟨Rect.unit (s := S1x32x4096) ![0, 0, o] S1x32x1024.size inb, w⟩ : View.Piece (Elt Ideal) S1x32x4096 .f32) :: L)
      (ix3 0 h (at4 o ho x)) = w (ix3 0 h x) := by
  rw [← quarter_emb o ho h x inb]
  exact View.canon_cons_emb _ _ _ _

/-- A position outside the quarter stored last holds what the earlier stores left. -/
theorem canon_other (o o' : Nat) (ho : o + 1024 ≤ 4096) (hne : o + 1024 ≤ o' ∨ o' + 1024 ≤ o) (h : Fin 32) (x : Fin 1024)
    (inb : ∀ a, (![0, 0, o'] : Fin 3 → Nat) a + S1x32x1024.size a ≤ S1x32x4096.size a) (w : Vec Ideal S1x32x1024 .f32)
    (L : List (View.Piece (Elt Ideal) S1x32x4096 .f32)) :
    View.canon ((⟨Rect.unit (s := S1x32x4096) ![0, 0, o'] S1x32x1024.size inb, w⟩ : View.Piece (Elt Ideal) S1x32x4096 .f32) :: L)
      (ix3 0 h (at4 o ho x)) = View.canon L (ix3 0 h (at4 o ho x)) :=
  View.canon_cons_of_not_mem _ _ (quarter_not_mem o o' ho hne h x inb)

/-- The importances with the probabilities added. -/
theorem out10_at (h : Fin 32) (y : Fin 4096) : out0_A_10 (F := Ideal) c i arg1 h1 arg2 h2 arg3 h3 arg4 h4 arg5 h5 arg6 h6 arg7 h7 arg8 h8 arg9 h9 arg10 h10 arg11 h11 arg12 h12 arg13 h13 arg14 h14 arg15 h15 arg16 h16 arg17 h17 x0 x1 x2 x3 x4 x5 x6 x7 x8 (ix3 0 h y) = x8 (ix3 0 h y) + (hd i x0 x1 x2 x3 x4 x5 x6 x7 h).p y := by
  unfold out0_A_10
  rw [View.read_writes_junk_eq_canon]
  unfold kernelRun0_A
  dsimp only
  rcases quarter_cases y with ⟨x, rfl⟩ | ⟨x, rfl⟩ | ⟨x, rfl⟩ | ⟨x, rfl⟩
  · exact (canon_other 0 3072 (by decide) (by decide) h x _ _ _).trans <|
      (canon_other 0 2048 (by decide) (by decide) h x _ _ _).trans <|
      (canon_other 0 1024 (by decide) (by decide) h x _ _ _).trans <|
      (canon_quarter 0 (by decide) h x _ _ _).trans (imp_0 c i arg1 h1 arg2 h2 arg3 h3 arg5 h5 arg6 h6 arg9 h9 arg17 x0 x1 x2 x3 x4 x5 x6 x7 x8 h x _)
  · exact (canon_other 1024 3072 (by decide) (by decide) h x _ _ _).trans <|
      (canon_other 1024 2048 (by decide) (by decide) h x _ _ _).trans <|
      (canon_quarter 1024 (by decide) h x _ _ _).trans (imp_1024 c i arg1 h1 arg2 h2 arg3 h3 arg5 h5 arg6 h6 arg9 h9 arg17 x0 x1 x2 x3 x4 x5 x6 x7 x8 h x _)
  · exact (canon_other 2048 3072 (by decide) (by decide) h x _ _ _).trans <|
      (canon_quarter 2048 (by decide) h x _ _ _).trans (imp_2048 c i arg1 h1 arg2 h2 arg3 h3 arg5 h5 arg6 h6 arg9 h9 arg17 x0 x1 x2 x3 x4 x5 x6 x7 x8 h x _)
  · exact (canon_quarter 3072 (by decide) h x _ _ _).trans (imp_3072 c i arg1 h1 arg2 h2 arg3 h3 arg5 h5 arg6 h6 arg9 h9 arg17 x0 x1 x2 x3 x4 x5 x6 x7 x8 h x _)

/-- The probability of the new position. -/
theorem out11_at (h : Fin 32) : out0_A_11 (F := Ideal) c i arg1 h1 arg2 h2 arg3 h3 arg4 h4 arg5 h5 arg6 h6 arg7 h7 arg8 h8 arg9 h9 arg10 h10 arg11 h11 arg12 h12 arg13 h13 arg14 h14 arg15 h15 arg16 h16 arg17 h17 x0 x1 x2 x3 x4 x5 x6 x7 x8 (ix3 0 h 0) = (hd i x0 x1 x2 x3 x4 x5 x6 x7 h).pNew := by
  unfold out0_A_11
  rw [View.read_writes_junk_eq_canon]
  unfold kernelRun0_A
  dsimp only
  rw [View.canon_unit_zero hz3]
  exact newimp_at c i arg1 h1 arg2 h2 arg3 h3 arg5 h5 arg6 h6 arg17 x0 x1 x2 x3 x4 x5 x6 x7 h

/-- The new key's codes. -/
theorem out12_at (g : Fin 8) (d : Fin 96) : out0_A_12 (F := Ideal) c i arg1 h1 arg2 h2 arg3 h3 arg4 h4 arg5 h5 arg6 h6 arg7 h7 arg8 h8 arg9 h9 arg10 h10 arg11 h11 arg12 h12 arg13 h13 arg14 h14 arg15 h15 arg16 h16 arg17 h17 x0 x1 x2 x3 x4 x5 x6 x7 x8 (ix3 0 g d) = Ideal.fptosi 8 (code (fun d => x2 (ix3 0 g d)) d) := by
  unfold out0_A_12
  rw [View.read_writes_junk_eq_canon]
  unfold kernelRun0_A
  dsimp only
  rw [View.canon_unit_zero hz3]
  rw [← r_5_at c arg3 h3 x2 g d]
  pointwise [k0_pay9]

/-- The new key's scales. -/
theorem out13_at (g : Fin 8) : out0_A_13 (F := Ideal) c i arg1 h1 arg2 h2 arg3 h3 arg4 h4 arg5 h5 arg6 h6 arg7 h7 arg8 h8 arg9 h9 arg10 h10 arg11 h11 arg12 h12 arg13 h13 arg14 h14 arg15 h15 arg16 h16 arg17 h17 x0 x1 x2 x3 x4 x5 x6 x7 x8 (ix3 0 g 0) = scale fun d => x2 (ix3 0 g d) := by
  unfold out0_A_13
  rw [View.read_writes_junk_eq_canon]
  unfold kernelRun0_A
  dsimp only
  rw [View.canon_unit_zero hz3]
  rw [← r_1_at c arg3 h3 x2 g]
  pointwise [k0_pay11]

/-- The new value's codes. -/
theorem out14_at (g : Fin 8) (d : Fin 96) : out0_A_14 (F := Ideal) c i arg1 h1 arg2 h2 arg3 h3 arg4 h4 arg5 h5 arg6 h6 arg7 h7 arg8 h8 arg9 h9 arg10 h10 arg11 h11 arg12 h12 arg13 h13 arg14 h14 arg15 h15 arg16 h16 arg17 h17 x0 x1 x2 x3 x4 x5 x6 x7 x8 (ix3 0 g d) = Ideal.fptosi 8 (code (fun d => x3 (ix3 0 g d)) d) := by
  unfold out0_A_14
  rw [View.read_writes_junk_eq_canon]
  unfold kernelRun0_A
  dsimp only
  rw [View.canon_unit_zero hz3]
  rw [← r_4_at c arg4 h4 x3 g d]
  pointwise [k0_pay10]
  rfl

/-- The new value's scales. -/
theorem out15_at (g : Fin 8) : out0_A_15 (F := Ideal) c i arg1 h1 arg2 h2 arg3 h3 arg4 h4 arg5 h5 arg6 h6 arg7 h7 arg8 h8 arg9 h9 arg10 h10 arg11 h11 arg12 h12 arg13 h13 arg14 h14 arg15 h15 arg16 h16 arg17 h17 x0 x1 x2 x3 x4 x5 x6 x7 x8 (ix3 0 g 0) = scale fun d => x3 (ix3 0 g d) := by
  unfold out0_A_15
  rw [View.read_writes_junk_eq_canon]
  unfold kernelRun0_A
  dsimp only
  rw [View.canon_unit_zero hz3]
  rw [← r_3_at c arg4 h4 x3 g]
  pointwise [k0_pay12]

end Cert.Proof.Block
-- ==== Proof.Heads.lean ====
/- What each query head of each sequence reads of the argument arrays. -/
module

public import proofs.«01_k».proof.Proof.PerHead

@[expose] public section
noncomputable section
namespace Cert.Proof
open Idealize.ShloMosaic Idealize.ShloMosaic.TcCoe

/-- The column of the query row where head `h`'s entry `d` stands. -/
def qcol (h : Fin 32) (d : Fin 96) : Fin 3072 := ⟨96 * h.val + d.val, by omega⟩

/-- Query head `h` of sequence `b` of the argument arrays: the query, the new key and value rows, the past keys' codes and scales, the
    past values' codes and scales, the lengths. -/
def headOf (q : (⟨3, ![12, 1, 3072]⟩ : Shape).Idx → EReal) (kn vn : (⟨4, ![12, 1, 8, 96]⟩ : Shape).Idx → EReal)
    (K : (⟨4, ![12, 4096, 8, 96]⟩ : Shape).Idx → BitVec 8) (ks : (⟨3, ![12, 4096, 8]⟩ : Shape).Idx → EReal)
    (V : (⟨4, ![12, 4096, 8, 96]⟩ : Shape).Idx → BitVec 8) (vs : (⟨3, ![12, 4096, 8]⟩ : Shape).Idx → EReal)
    (len : (⟨1, ![12]⟩ : Shape).Idx → BitVec 32) (b : Fin 12) (h : Fin 32) : Head where
  q d := q (ix3 b 0 (qcol h d))
  kn d := kn (ix4 b 0 (grp h) d)
  vn d := vn (ix4 b 0 (grp h) d)
  K d c := FloatOps.sitofp (F := Ideal) .bf16 (K (ix4 b c (grp h) d))
  ks c := ks (ix3 b c (grp h))
  V d c := FloatOps.sitofp (F := Ideal) .bf16 (V (ix4 b c (grp h) d))
  vs c := vs (ix3 b c (grp h))
  len := len (ix1 b)

/-! ### The results -/

section
variable (q : (⟨3, ![12, 1, 3072]⟩ : Shape).Idx → EReal) (kn vn : (⟨4, ![12, 1, 8, 96]⟩ : Shape).Idx → EReal)
  (K : (⟨4, ![12, 4096, 8, 96]⟩ : Shape).Idx → BitVec 8) (ks : (⟨3, ![12, 4096, 8]⟩ : Shape).Idx → EReal)
  (V : (⟨4, ![12, 4096, 8, 96]⟩ : Shape).Idx → BitVec 8) (vs : (⟨3, ![12, 4096, 8]⟩ : Shape).Idx → EReal)
  (len : (⟨1, ![12]⟩ : Shape).Idx → BitVec 32) (imp : (⟨3, ![12, 32, 4096]⟩ : Shape).Idx → EReal)

/-- The attention output. -/
def outArr : (⟨3, ![12, 32, 96]⟩ : Shape).Idx → EReal := fun j => (headOf q kn vn K ks V vs len (j 0) (j 1)).o (j 2)
/-- The importances with the past positions' probabilities added. -/
def impArr : (⟨3, ![12, 32, 4096]⟩ : Shape).Idx → EReal := fun j => imp j + (headOf q kn vn K ks V vs len (j 0) (j 1)).p (j 2)
/-- The new position's probabilities. -/
def newArr : (⟨3, ![12, 32, 1]⟩ : Shape).Idx → EReal := fun j => (headOf q kn vn K ks V vs len (j 0) (j 1)).pNew
/-- The codes of the new rows. -/
def codeArr : (⟨3, ![12, 8, 96]⟩ : Shape).Idx → BitVec 8 := fun j => Ideal.fptosi 8 (code (fun d => kn (ix4 (j 0) 0 (j 1) d)) (j 2))
/-- The scales of the new rows. -/
def scaleArr : (⟨3, ![12, 8, 1]⟩ : Shape).Idx → EReal := fun j => scale fun d => kn (ix4 (j 0) 0 (j 1) d)

end

end Cert.Proof
-- ==== Proof.Arrays.lean ====
/- The kernel's seven result arrays as functions of the argument arrays: each grid step works on one sequence's blocks of the arguments,
   and writes that sequence's block of every result. -/
module

public import proofs.«01_k».proof.Proof.Blocks5
public import proofs.«01_k».proof.Proof.Heads
public import Idealize.ShloMosaic.Lib.Pipeline.ValueKit.Geometry

@[expose] public section
set_option maxRecDepth 16384
noncomputable section
namespace Cert.Proof.Arrays
open Cert.KernelIdeal Cert.KernelIdeal.Gen Cert.KernelIdeal.Value
open Idealize.ShloMosaic Idealize.ShloMosaic.TcCoe Idealize.ShloMosaic.Tactic Idealize.SL.Sem

variable (m : (ℓ : Loc nD τ sig) → Buf (Elt Ideal) ℓ) (ρ : Dev nD → PrngReg)

/-- The sequence a grid step works on. -/
def seq (t : Fin cfg0.N) : Fin 12 := t

/-! ### The arrays that the kernel computes, of the arguments in memory -/

/-- What query head `h` of sequence `b` reads. -/
def head (c : Dev nD) (b : Fin 12) (h : Fin 32) : Head :=
  headOf (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7)) b h
/-- The attention output. -/
def outOf (c : Dev nD) : Vec Ideal S12x32x96 .bf16 :=
  outArr (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
/-- The importances with the past positions' probabilities added. -/
def impOf (c : Dev nD) : Vec Ideal S12x32x4096 .f32 :=
  impArr (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8))
/-- The new position's probabilities. -/
def newOf (c : Dev nD) : Vec Ideal S12x32x1 .f32 :=
  newArr (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))

/-! ### The blocks of each window -/

/-- If a rank-3 window's block at step `t` starts at `t, 0, 0` and has one sequence of all the rest, its index `0, x, y` is the array's
    `t, x, y`. -/
theorem emb_block {p q : Nat} (t : Fin cfg0.N) {e : (⟨3, ![1, p, q]⟩ : Shape).Idx → (⟨3, ![12, p, q]⟩ : Shape).Idx} {ix : Fin 3 → Nat}
    (hi : ix = ![t.val, 0, 0]) (he : ∀ y a, (e y a).val = ix a * (⟨3, ![1, p, q]⟩ : Shape).size a + 1 * (y a).val) (x : Fin p) (y : Fin q) :
    e (ix3 0 x y) = ix3 (seq t) x y := by
  subst hi
  funext a; apply Fin.ext
  rw [he]
  match a with
  | ⟨0, _⟩ => show t.val * 1 + 1 * 0 = t.val; omega
  | ⟨1, _⟩ => show 0 * p + 1 * x.val = x.val; omega
  | ⟨2, _⟩ => show 0 * q + 1 * y.val = y.val; omega

/-- Every index of such a block is one of those. -/
theorem block_idx {p q : Nat} (j : (⟨3, ![1, p, q]⟩ : Shape).Idx) : ∃ (x : Fin p) (y : Fin q), j = ix3 0 x y :=
  ⟨j 1, j 2, (eq_ix3 (n0 := 1) j).trans (by rw [Fin.fin_one_eq_zero (j 0)])⟩

/-- The lengths' window is their whole array. -/
theorem emb0 (t : Fin cfg0.N) (b : Fin 12) : ((cfg0.win 0).blk t).view.emb (ix1 b) = ix1 b := by
  have e0 := (by decide +kernel : ∀ t : Fin grid0.N, win0_0.index t (0 : Fin 1) = 0) t
  funext a; apply Fin.ext
  match a with
  | ⟨0, _⟩ => show win0_0.index t (0 : Fin 1) * 12 + 1 * b.val = b.val; omega

/-- Index `(x, y)` of the block of window 1 is index `(x, y)` of its sequence. -/
theorem emb1 (t : Fin cfg0.N) (x : Fin 32) (y : Fin 96) : ((cfg0.win 1).blk t).view.emb (ix3 0 x y) = ix3 (seq t) x y :=
  emb_block t ((by decide +kernel : ∀ t : Fin grid0.N, win0_1.index t = ![t.val, 0, 0]) t) (fun _ _ => rfl) x y
/-- Index `(x, y)` of the block of window 2 is index `(x, y)` of its sequence. -/
theorem emb2 (t : Fin cfg0.N) (x : Fin 8) (y : Fin 96) : ((cfg0.win 2).blk t).view.emb (ix3 0 x y) = ix3 (seq t) x y :=
  emb_block t ((by decide +kernel : ∀ t : Fin grid0.N, win0_2.index t = ![t.val, 0, 0]) t) (fun _ _ => rfl) x y
/-- Index `(x, y)` of the block of window 3 is index `(x, y)` of its sequence. -/
theorem emb3 (t : Fin cfg0.N) (x : Fin 8) (y : Fin 96) : ((cfg0.win 3).blk t).view.emb (ix3 0 x y) = ix3 (seq t) x y :=
  emb_block t ((by decide +kernel : ∀ t : Fin grid0.N, win0_3.index t = ![t.val, 0, 0]) t) (fun _ _ => rfl) x y
/-- Index `(x, y)` of the block of window 4 is index `(x, y)` of its sequence. -/
theorem emb4 (t : Fin cfg0.N) (x : Fin 768) (y : Fin 4096) : ((cfg0.win 4).blk t).view.emb (ix3 0 x y) = ix3 (seq t) x y :=
  emb_block t ((by decide +kernel : ∀ t : Fin grid0.N, win0_4.index t = ![t.val, 0, 0]) t) (fun _ _ => rfl) x y
/-- Index `(x, y)` of the block of window 5 is index `(x, y)` of its sequence. -/
theorem emb5 (t : Fin cfg0.N) (x : Fin 8) (y : Fin 4096) : ((cfg0.win 5).blk t).view.emb (ix3 0 x y) = ix3 (seq t) x y :=
  emb_block t ((by decide +kernel : ∀ t : Fin grid0.N, win0_5.index t = ![t.val, 0, 0]) t) (fun _ _ => rfl) x y
/-- Index `(x, y)` of the block of window 6 is index `(x, y)` of its sequence. -/
theorem emb6 (t : Fin cfg0.N) (x : Fin 768) (y : Fin 4096) : ((cfg0.win 6).blk t).view.emb (ix3 0 x y) = ix3 (seq t) x y :=
  emb_block t ((by decide +kernel : ∀ t : Fin grid0.N, win0_6.index t = ![t.val, 0, 0]) t) (fun _ _ => rfl) x y
/-- Index `(x, y)` of the block of window 7 is index `(x, y)` of its sequence. -/
theorem emb7 (t : Fin cfg0.N) (x : Fin 8) (y : Fin 4096) : ((cfg0.win 7).blk t).view.emb (ix3 0 x y) = ix3 (seq t) x y :=
  emb_block t ((by decide +kernel : ∀ t : Fin grid0.N, win0_7.index t = ![t.val, 0, 0]) t) (fun _ _ => rfl) x y
/-- Index `(x, y)` of the block of window 8 is index `(x, y)` of its sequence. -/
theorem emb8 (t : Fin cfg0.N) (x : Fin 32) (y : Fin 4096) : ((cfg0.win 8).blk t).view.emb (ix3 0 x y) = ix3 (seq t) x y :=
  emb_block t ((by decide +kernel : ∀ t : Fin grid0.N, win0_8.index t = ![t.val, 0, 0]) t) (fun _ _ => rfl) x y
/-- Index `(x, y)` of the block of window 9 is index `(x, y)` of its sequence. -/
theorem emb9 (t : Fin cfg0.N) (x : Fin 32) (y : Fin 96) : ((cfg0.win 9).blk t).view.emb (ix3 0 x y) = ix3 (seq t) x y :=
  emb_block t ((by decide +kernel : ∀ t : Fin grid0.N, win0_9.index t = ![t.val, 0, 0]) t) (fun _ _ => rfl) x y
/-- Index `(x, y)` of the block of window 10 is index `(x, y)` of its sequence. -/
theorem emb10 (t : Fin cfg0.N) (x : Fin 32) (y : Fin 4096) : ((cfg0.win 10).blk t).view.emb (ix3 0 x y) = ix3 (seq t) x y :=
  emb_block t ((by decide +kernel : ∀ t : Fin grid0.N, win0_10.index t = ![t.val, 0, 0]) t) (fun _ _ => rfl) x y
/-- Index `(x, y)` of the block of window 11 is index `(x, y)` of its sequence. -/
theorem emb11 (t : Fin cfg0.N) (x : Fin 32) (y : Fin 1) : ((cfg0.win 11).blk t).view.emb (ix3 0 x y) = ix3 (seq t) x y :=
  emb_block t ((by decide +kernel : ∀ t : Fin grid0.N, win0_11.index t = ![t.val, 0, 0]) t) (fun _ _ => rfl) x y
/-- Index `(x, y)` of the block of window 12 is index `(x, y)` of its sequence. -/
theorem emb12 (t : Fin cfg0.N) (x : Fin 8) (y : Fin 96) : ((cfg0.win 12).blk t).view.emb (ix3 0 x y) = ix3 (seq t) x y :=
  emb_block t ((by decide +kernel : ∀ t : Fin grid0.N, win0_12.index t = ![t.val, 0, 0]) t) (fun _ _ => rfl) x y
/-- Index `(x, y)` of the block of window 13 is index `(x, y)` of its sequence. -/
theorem emb13 (t : Fin cfg0.N) (x : Fin 8) (y : Fin 1) : ((cfg0.win 13).blk t).view.emb (ix3 0 x y) = ix3 (seq t) x y :=
  emb_block t ((by decide +kernel : ∀ t : Fin grid0.N, win0_13.index t = ![t.val, 0, 0]) t) (fun _ _ => rfl) x y
/-- Index `(x, y)` of the block of window 14 is index `(x, y)` of its sequence. -/
theorem emb14 (t : Fin cfg0.N) (x : Fin 8) (y : Fin 96) : ((cfg0.win 14).blk t).view.emb (ix3 0 x y) = ix3 (seq t) x y :=
  emb_block t ((by decide +kernel : ∀ t : Fin grid0.N, win0_14.index t = ![t.val, 0, 0]) t) (fun _ _ => rfl) x y
/-- Index `(x, y)` of the block of window 15 is index `(x, y)` of its sequence. -/
theorem emb15 (t : Fin cfg0.N) (x : Fin 8) (y : Fin 1) : ((cfg0.win 15).blk t).view.emb (ix3 0 x y) = ix3 (seq t) x y :=
  emb_block t ((by decide +kernel : ∀ t : Fin grid0.N, win0_15.index t = ![t.val, 0, 0]) t) (fun _ _ => rfl) x y

/-- A column of the cache's blocks, taken apart into its key head and its place there. -/
theorem col_div (g : Fin 8) (d : Fin 96) (h : (col g d).val / 96 < 8) : (⟨(col g d).val / 96, h⟩ : Fin 8) = g :=
  Fin.ext (by show (96 * g.val + d.val) / 96 = g.val; omega)
/-- Column `96 g + d` is column `d` of its block of 96. -/
theorem col_mod (g : Fin 8) (d : Fin 96) (h : (col g d).val % 96 < 96) : (⟨(col g d).val % 96, h⟩ : Fin 96) = d :=
  Fin.ext (by show (96 * g.val + d.val) % 96 = d.val; omega)

/-- The length a grid step reads is its own sequence's. -/
theorem pos_eq : ∀ t : Fin cfg0.N, Block.pos (grid0.coords t) = seq t := (by decide +kernel : ∀ t : Fin grid0.N, _)

/-! ### The blocks of the operands, as the argument arrays -/

/-- Every step is given all the lengths. -/
theorem iblk0_at (c : Dev nD) (t : Fin cfg0.N) (b : Fin 12) :
    iblk m c 0 t (ix1 b) = m ((c : Thread nD τ).loc main_arg7) (ix1 b) := by
  show V m c main_arg7 (((cfg0.win 0).blk t).view.emb (ix1 b)) = _
  rw [emb0, V_main_arg7]

/-- The step's block of the query, at an index. -/
theorem iblk1_at (c : Dev nD) (t : Fin cfg0.N) (h : Fin 32) (d : Fin 96) :
    iblk m c 1 t (ix3 0 h d) = m ((c : Thread nD τ).loc main_arg0) (ix3 (seq t) 0 (qcol h d)) := by
  show V m c main_v0 (((cfg0.win 1).blk t).view.emb (ix3 0 h d)) = _
  rw [emb1]
  entry_read
  pointwise []
  exact congrArg _ (congrArg (ix3 (seq t) 0) (Fin.ext (by show h.val * 96 + d.val = 96 * h.val + d.val; omega)))

/-- The step's block of the new keys, at an index. -/
theorem iblk2_at (c : Dev nD) (t : Fin cfg0.N) (g : Fin 8) (d : Fin 96) :
    iblk m c 2 t (ix3 0 g d) = m ((c : Thread nD τ).loc main_arg1) (ix4 (seq t) 0 g d) := by
  show V m c main_v1 (((cfg0.win 2).blk t).view.emb (ix3 0 g d)) = _
  rw [emb2]
  entry_read
  pointwise []

/-- The step's block of the new values, at an index. -/
theorem iblk3_at (c : Dev nD) (t : Fin cfg0.N) (g : Fin 8) (d : Fin 96) :
    iblk m c 3 t (ix3 0 g d) = m ((c : Thread nD τ).loc main_arg2) (ix4 (seq t) 0 g d) := by
  show V m c main_v2 (((cfg0.win 3).blk t).view.emb (ix3 0 g d)) = _
  rw [emb3]
  entry_read
  pointwise []

/-- The step's block of the past keys' codes, at an index. -/
theorem iblk4_at (c : Dev nD) (t : Fin cfg0.N) (g : Fin 8) (d : Fin 96) (x : Fin 4096) :
    iblk m c 4 t (ix3 0 (col g d) x) = m ((c : Thread nD τ).loc main_arg3) (ix4 (seq t) x g d) := by
  show V m c main_v4 (((cfg0.win 4).blk t).view.emb (ix3 0 (col g d) x)) = _
  rw [emb4]
  entry_read
  pointwise []
  simp only [col_div, col_mod]

/-- The step's block of the past keys' scales, at an index. -/
theorem iblk5_at (c : Dev nD) (t : Fin cfg0.N) (g : Fin 8) (x : Fin 4096) :
    iblk m c 5 t (ix3 0 g x) = m ((c : Thread nD τ).loc main_arg4) (ix3 (seq t) x g) := by
  show V m c main_v7 (((cfg0.win 5).blk t).view.emb (ix3 0 g x)) = _
  rw [emb5]
  entry_read
  pointwise []

/-- The step's block of the past values' codes, at an index. -/
theorem iblk6_at (c : Dev nD) (t : Fin cfg0.N) (g : Fin 8) (d : Fin 96) (x : Fin 4096) :
    iblk m c 6 t (ix3 0 (col g d) x) = m ((c : Thread nD τ).loc main_arg5) (ix4 (seq t) x g d) := by
  show V m c main_v6 (((cfg0.win 6).blk t).view.emb (ix3 0 (col g d) x)) = _
  rw [emb6]
  entry_read
  pointwise []
  simp only [col_div, col_mod]

/-- The step's block of the past values' scales, at an index. -/
theorem iblk7_at (c : Dev nD) (t : Fin cfg0.N) (g : Fin 8) (x : Fin 4096) :
    iblk m c 7 t (ix3 0 g x) = m ((c : Thread nD τ).loc main_arg6) (ix3 (seq t) x g) := by
  show V m c main_v8 (((cfg0.win 7).blk t).view.emb (ix3 0 g x)) = _
  rw [emb7]
  entry_read
  pointwise []

/-- The step's block of the importances, at an index. -/
theorem iblk8_at (c : Dev nD) (t : Fin cfg0.N) (h : Fin 32) (x : Fin 4096) :
    iblk m c 8 t (ix3 0 h x) = m ((c : Thread nD τ).loc main_arg8) (ix3 (seq t) h x) := by
  show V m c main_arg8 (((cfg0.win 8).blk t).view.emb (ix3 0 h x)) = _
  rw [emb8, V_main_arg8]

/-- A head of the blocks of a grid step is that head of its sequence of the argument arrays. -/
theorem hd_eq (c : Dev nD) (t : Fin cfg0.N) (h : Fin 32) :
    Block.hd (grid0.coords t) (iblk m c 0 t) (iblk m c 1 t) (iblk m c 2 t) (iblk m c 3 t) (iblk m c 4 t) (iblk m c 5 t) (iblk m c 6 t) (iblk m c 7 t) h
      = head m c (seq t) h := by
  unfold Block.hd head headOf
  simp only [iblk0_at, iblk1_at, iblk2_at, iblk3_at, iblk4_at, iblk5_at, iblk6_at, iblk7_at, pos_eq]

/-! ### The result arrays after the run: the steps' blocks cover each, and each step writes its sequence's part -/

/-- After all steps the first result holds the attention output. -/
theorem final9 (c : Dev nD) : (dats m 0 c).arrAt 9 cfg0.N = outOf m c := by
  refine (dats m 0 c).arrAt_eq_of_covers 9 _ (by decide +kernel) fun t _ j => ?_
  obtain ⟨x, y, rfl⟩ := block_idx (p := 32) (q := 96) j
  rw [after0_9]
  show (outsAt0 m c t).1 (ix3 0 x y) = outOf m c (((cfg0.win 9).blk t).view.emb (ix3 0 x y))
  rw [emb9]
  dsimp only [outsAt0]
  rw [Block.out9_at]
  simp only [hd_eq]
  rfl

/-- After all steps the second result holds the updated importances. -/
theorem final10 (c : Dev nD) : (dats m 0 c).arrAt 10 cfg0.N = impOf m c := by
  refine (dats m 0 c).arrAt_eq_of_covers 10 _ (by decide +kernel) fun t _ j => ?_
  obtain ⟨x, y, rfl⟩ := block_idx (p := 32) (q := 4096) j
  rw [after0_10]
  show (outsAt0 m c t).2.1 (ix3 0 x y) = impOf m c (((cfg0.win 10).blk t).view.emb (ix3 0 x y))
  rw [emb10]
  dsimp only [outsAt0]
  rw [Block.out10_at]
  simp only [hd_eq, iblk8_at]
  rfl

/-- After all steps the third result holds the new position's probabilities. -/
theorem final11 (c : Dev nD) : (dats m 0 c).arrAt 11 cfg0.N = newOf m c := by
  refine (dats m 0 c).arrAt_eq_of_covers 11 _ (by decide +kernel) fun t _ j => ?_
  obtain ⟨x, y, rfl⟩ := block_idx (p := 32) (q := 1) j
  obtain rfl := Fin.fin_one_eq_zero y
  rw [after0_11]
  show (outsAt0 m c t).2.2.1 (ix3 0 x 0) = newOf m c (((cfg0.win 11).blk t).view.emb (ix3 0 x 0))
  rw [emb11]
  dsimp only [outsAt0]
  rw [Block.out11_at]
  simp only [hd_eq]
  rfl

/-- After all steps the fourth result holds the new keys' codes. -/
theorem final12 (c : Dev nD) : (dats m 0 c).arrAt 12 cfg0.N = (codeArr (m ((c : Thread nD τ).loc main_arg1)) : Vec Ideal S12x8x96 .i8) := by
  refine (dats m 0 c).arrAt_eq_of_covers 12 _ (by decide +kernel) fun t _ j => ?_
  obtain ⟨x, y, rfl⟩ := block_idx (p := 8) (q := 96) j
  rw [after0_12]
  show (outsAt0 m c t).2.2.2.1 (ix3 0 x y) = (codeArr (m ((c : Thread nD τ).loc main_arg1)) : Vec Ideal S12x8x96 .i8) (((cfg0.win 12).blk t).view.emb (ix3 0 x y))
  rw [emb12]
  dsimp only [outsAt0]
  rw [Block.out12_at]
  simp only [iblk2_at]
  rfl

/-- After all steps the fifth result holds the new keys' scales. -/
theorem final13 (c : Dev nD) : (dats m 0 c).arrAt 13 cfg0.N = (scaleArr (m ((c : Thread nD τ).loc main_arg1)) : Vec Ideal S12x8x1 .f32) := by
  refine (dats m 0 c).arrAt_eq_of_covers 13 _ (by decide +kernel) fun t _ j => ?_
  obtain ⟨x, y, rfl⟩ := block_idx (p := 8) (q := 1) j
  obtain rfl := Fin.fin_one_eq_zero y
  rw [after0_13]
  show (outsAt0 m c t).2.2.2.2.1 (ix3 0 x 0) = (scaleArr (m ((c : Thread nD τ).loc main_arg1)) : Vec Ideal S12x8x1 .f32) (((cfg0.win 13).blk t).view.emb (ix3 0 x 0))
  rw [emb13]
  dsimp only [outsAt0]
  rw [Block.out13_at]
  simp only [iblk2_at]
  rfl

/-- After all steps the sixth result holds the new values' codes. -/
theorem final14 (c : Dev nD) : (dats m 0 c).arrAt 14 cfg0.N = (codeArr (m ((c : Thread nD τ).loc main_arg2)) : Vec Ideal S12x8x96 .i8) := by
  refine (dats m 0 c).arrAt_eq_of_covers 14 _ (by decide +kernel) fun t _ j => ?_
  obtain ⟨x, y, rfl⟩ := block_idx (p := 8) (q := 96) j
  rw [after0_14]
  show (outsAt0 m c t).2.2.2.2.2.1 (ix3 0 x y) = (codeArr (m ((c : Thread nD τ).loc main_arg2)) : Vec Ideal S12x8x96 .i8) (((cfg0.win 14).blk t).view.emb (ix3 0 x y))
  rw [emb14]
  dsimp only [outsAt0]
  rw [Block.out14_at]
  simp only [iblk3_at]
  rfl

/-- After all steps the seventh result holds the new values' scales. -/
theorem final15 (c : Dev nD) : (dats m 0 c).arrAt 15 cfg0.N = (scaleArr (m ((c : Thread nD τ).loc main_arg2)) : Vec Ideal S12x8x1 .f32) := by
  refine (dats m 0 c).arrAt_eq_of_covers 15 _ (by decide +kernel) fun t _ j => ?_
  obtain ⟨x, y, rfl⟩ := block_idx (p := 8) (q := 1) j
  obtain rfl := Fin.fin_one_eq_zero y
  rw [after0_15]
  show (outsAt0 m c t).2.2.2.2.2.2 (ix3 0 x 0) = (scaleArr (m ((c : Thread nD τ).loc main_arg2)) : Vec Ideal S12x8x1 .f32) (((cfg0.win 15).blk t).view.emb (ix3 0 x 0))
  rw [emb15]
  dsimp only [outsAt0]
  rw [Block.out15_at]
  simp only [iblk3_at]
  rfl

/-- The kernel's run: every result array is its function of the arguments, which stay as launched. -/
theorem run : θ_run defs (onTc (τ := τ) (main (F := Ideal))) ⟨m, fun _ => 0, ρ⟩ fun r => ∀ c : Dev nD,
      r.2.mem ((c : Thread nD τ).loc main_v9_0) = outOf m c
      ∧ r.2.mem ((c : Thread nD τ).loc main_v9_1) = impOf m c
      ∧ r.2.mem ((c : Thread nD τ).loc main_v9_2) = newOf m c
      ∧ r.2.mem ((c : Thread nD τ).loc main_v9_3) = (codeArr (m ((c : Thread nD τ).loc main_arg1)) : Vec Ideal S12x8x96 .i8)
      ∧ r.2.mem ((c : Thread nD τ).loc main_v9_4) = (scaleArr (m ((c : Thread nD τ).loc main_arg1)) : Vec Ideal S12x8x1 .f32)
      ∧ r.2.mem ((c : Thread nD τ).loc main_v9_5) = (codeArr (m ((c : Thread nD τ).loc main_arg2)) : Vec Ideal S12x8x96 .i8)
      ∧ r.2.mem ((c : Thread nD τ).loc main_v9_6) = (scaleArr (m ((c : Thread nD τ).loc main_arg2)) : Vec Ideal S12x8x1 .f32)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => by
    obtain ⟨e9, e10, e11, e12, e13, e14, e15, hk⟩ := h c
    exact ⟨e9.trans (final9 m c), e10.trans (final10 m c), e11.trans (final11 m c), e12.trans (final12 m c), e13.trans (final13 m c),
      e14.trans (final14 m c), e15.trans (final15 m c), hk⟩) (run_blocks m ρ)

end Cert.Proof.Arrays
-- ==== Proof.Ref.lean ====
/- The reference read at an index: its operations in stages (the quantiser; the scores; the largest score, the exponentials and their
   sum; the probabilities; the output), each stage at an index as the mathematics of one head. -/
module

public import proofs.«01_k».proof.Proof.Gen.ReferenceIdeal.Run
public import Idealize.ShloMosaic.Lib.Pointwise
public import proofs.«01_k».proof.Proof.Heads

@[expose] public section
set_option maxRecDepth 16384
noncomputable section
namespace Cert.Proof.Ref
open Cert.ReferenceIdeal Cert.ReferenceIdeal.Gen
open Idealize.ShloMosaic Idealize.ShloMosaic.TcCoe Idealize.ShloMosaic.Tactic Idealize.SL.Sem

/-- A head's place among the four of its key head. -/
def sub (h : Fin 32) : Fin 4 := ⟨h.val % 4, Nat.mod_lt _ (by decide)⟩

/-- Widening a code to 32 bits before it is made a number changes nothing. -/
theorem widened (w : BitVec 8) : FloatOps.sitofp (F := Ideal) .bf16 (w.signExtend 32) = FloatOps.sitofp (F := Ideal) .bf16 w :=
  congrArg (fun z : ℤ => ((z : ℝ) : EReal)) (BitVec.toInt_signExtend_of_le (by decide))

/-! ### The quantiser -/

section
variable (x : FVec Ideal S12x1x8x96 .bf16)

/-- The largest absolute value of each row. -/
def amaxV : FVec Ideal S12x1x8 .f32 :=
  Host.reduce FloatOps.maximumf (Host.absf (extf .f32 x bitsLt_bf16_f32)) (constant (F := Ideal) S_ .f32 0xFF800000#32) reducesTo_S12x1x8x96_S12x1x8_d3 h_S_

/-- The scale of each row. -/
def scaleV : FVec Ideal S12x1x8 .f32 :=
  select (cmpf .ogt (amaxV x) (broadcastInDim S12x1x8 ![] bcast_S_S12x1x8 (constant (F := Ideal) S_ .f32 0x00000000#32)))
    (Host.divf (amaxV x) (broadcastInDim S12x1x8 ![] bcast_S_S12x1x8 (constant (F := Ideal) S_ .f32 0x42FE0000#32)))
    (broadcastInDim S12x1x8 ![] bcast_S_S12x1x8 (id (constant (F := Ideal) S_ .f32 0x3F800000#32)))

/-- The codes of each row, as 8-bit integers. -/
def codeV : IVec S12x1x8x96 8 :=
  id (trunci 8 (fptosi 32 (minimumf (broadcastInDim S12x1x8x96 ![] bcast_S_S12x1x8x96 (id (constant (F := Ideal) S_ .f32 0x42FE0000#32)))
    (maximumf (broadcastInDim S12x1x8x96 ![] bcast_S_S12x1x8x96 (id (constant (F := Ideal) S_ .f32 0xC2FE0000#32)))
      (Host.roundeven (Host.divf (extf .f32 x bitsLt_bf16_f32)
        (broadcastInDim S12x1x8x96 ![0, 1, 2, 3] bcast_S12x1x8x1_S12x1x8x96_0_1_2_3
          (broadcastInDim S12x1x8x1 ![0, 1, 2] bcast_S12x1x8_S12x1x8x1_0_1_2 (scaleV x)))))))) natLt_8_32)

/-- The codes as bfloat16 numbers. -/
def codeF : FVec Ideal S12x1x8x96 .bf16 := sitofp (F := Ideal) .bf16 (extsi 32 (codeV x) natLt_8_32)

/-- The scale of a row is that of the quantiser. -/
theorem scaleV_at (b : Fin 12) (g : Fin 8) : scaleV x (ix3 b 0 g) = scale fun d => x (ix4 b 0 g d) := by
  pointwise [scaleV, amaxV, id_eq]
  rfl

/-- The codes of a row are those of the quantiser. -/
theorem codeV_at (b : Fin 12) (g : Fin 8) (d : Fin 96) : codeV x (ix4 b 0 g d) = Ideal.fptosi 8 (code (fun d => x (ix4 b 0 g d)) d) := by
  rw [← code_word]
  pointwise [codeV, id_eq]
  rw [scaleV_at]
  rfl

/-- The codes of a row, as numbers. -/
theorem codeF_at (b : Fin 12) (g : Fin 8) (d : Fin 96) : codeF x (ix4 b 0 g d) = code (fun d => x (ix4 b 0 g d)) d := by
  rw [← code_back]
  pointwise [codeF]
  rw [codeV_at]
  rw [widened]
  rfl

end

/-! ### The scores -/

variable (a0 : FVec Ideal S12x1x3072 .bf16) (a1 a2 : FVec Ideal S12x1x8x96 .bf16) (a3 : IVec S12x4096x8x96 8) (a4 : FVec Ideal S12x4096x8 .f32)
  (a5 : IVec S12x4096x8x96 8) (a6 : FVec Ideal S12x4096x8 .f32) (a7 : IVec S12 32) (a8 : FVec Ideal S12x32x4096 .f32)

/-- The query rows. -/
def qV : FVec Ideal S12x1x8x4x96 .bf16 := shapeCast S12x1x8x4x96 a0 shapeCasts_S12x1x3072_S12x1x8x4x96

/-- The past positions' scores. -/
def scV : FVec Ideal S12x1x8x4x4096 .f32 :=
  select (broadcastInDim S12x1x8x4x4096 ![0, 1, 2, 3, 4] bcast_S12x1x1x1x4096_S12x1x8x4x4096_0_1_2_3_4
      (broadcastInDim S12x1x1x1x4096 ![0, 4] bcast_S12x4096_S12x1x1x1x4096_0_4
        (cmpi .slt (broadcastInDim S12x4096 ![0, 1] bcast_S1x4096_S12x4096_0_1 (broadcastInDim S1x4096 ![1] bcast_S4096_S1x4096_1 (iotaInDim S4096 32 0)))
          (broadcastInDim S12x4096 ![0, 1] bcast_S12x1_S12x4096_0_1 (broadcastInDim S12x1 ![0] bcast_S12_S12x1_0 a7)))))
    (mulf (mulf (transpose S12x1x8x4x4096 [0, 3, 1, 4, 2]
          (Host.dotGeneral dot_S12x4096x8x96_S12x1x8x4x96_S12x8x4096x1x4_3_4_1_13_02_02 none
            (sitofp (F := Ideal) .bf16 (extsi 32 a3 natLt_8_32)) (qV a0)) transposes_S12x8x4096x1x4_S12x1x8x4x4096_0_3_1_4_2)
        (broadcastInDim S12x1x8x4x4096 ![0, 1, 2, 3, 4] bcast_S12x1x8x1x4096_S12x1x8x4x4096_0_1_2_3_4
          (broadcastInDim S12x1x8x1x4096 ![0, 2, 4] bcast_S12x8x4096_S12x1x8x1x4096_0_2_4
            (transpose S12x8x4096 [0, 2, 1] a4 transposes_S12x4096x8_S12x8x4096_0_2_1))))
      (broadcastInDim S12x1x8x4x4096 ![] bcast_S_S12x1x8x4x4096 (constant (F := Ideal) S_ .f32 0x3DD105EC#32)))
    (broadcastInDim S12x1x8x4x4096 ![] bcast_S_S12x1x8x4x4096 (id (constant (F := Ideal) S_ .f32 0xFF800000#32)))

/-- The new position's scores. -/
def snV : FVec Ideal S12x1x8x4x1 .f32 :=
  select (broadcastInDim S12x1x8x4x1 ![0, 1, 2, 3, 4] bcast_S1x1x1x1x1_S12x1x8x4x1_0_1_2_3_4
      (broadcastInDim S1x1x1x1x1 ![1, 4] bcast_S1x1_S1x1x1x1x1_1_4
        (cmpi .sle (broadcastInDim S1x1 ![1] bcast_S1_S1x1_1 (iotaInDim S1 32 0)) (broadcastInDim S1x1 ![0] bcast_S1_S1x1_0 (iotaInDim S1 32 0)))))
    (mulf (mulf (transpose S12x1x8x4x1 [0, 3, 1, 4, 2]
          (Host.dotGeneral dot_S12x1x8x96_S12x1x8x4x96_S12x8x1x1x4_3_4_1_13_02_02 none (codeF a1) (qV a0))
          transposes_S12x8x1x1x4_S12x1x8x4x1_0_3_1_4_2)
        (broadcastInDim S12x1x8x4x1 ![0, 1, 2, 3, 4] bcast_S12x1x8x1x1_S12x1x8x4x1_0_1_2_3_4
          (broadcastInDim S12x1x8x1x1 ![0, 2, 4] bcast_S12x8x1_S12x1x8x1x1_0_2_4
            (transpose S12x8x1 [0, 2, 1] (id (scaleV a1)) transposes_S12x1x8_S12x8x1_0_2_1))))
      (broadcastInDim S12x1x8x4x1 ![] bcast_S_S12x1x8x4x1 (constant (F := Ideal) S_ .f32 0x3DD105EC#32)))
    (broadcastInDim S12x1x8x4x1 ![] bcast_S_S12x1x8x4x1 (id (constant (F := Ideal) S_ .f32 0xFF800000#32)))

/-- The query, with its heads grouped by key head. -/
theorem qV_at (b : Fin 12) (h : Fin 32) (d : Fin 96) : qV a0 (ix5 b 0 (grp h) (sub h) d) = a0 (ix3 b 0 (qcol h d)) := by
  pointwise [qV]
  exact congrArg (fun k => a0 (ix3 b 0 k)) (Fin.ext (by show h.val / 4 * 384 + h.val % 4 * 96 + d.val = 96 * h.val + d.val; omega))

/-- The scores of the past. -/
theorem scV_at (b : Fin 12) (h : Fin 32) (c : Fin 4096) :
    scV a0 a3 a4 a7 (ix5 b 0 (grp h) (sub h) c) = (headOf a0 a1 a2 a3 a4 a5 a6 a7 b h).sc c := by
  pointwise [scV, id_eq]
  simp only [qV_at, widened]
  have e : ∑ d, FloatOps.sitofp (F := Ideal) .bf16 (a3 (ix4 b c (grp h) d)) * a0 (ix3 b 0 (qcol h d))
      = ∑ d, (headOf a0 a1 a2 a3 a4 a5 a6 a7 b h).q d * (headOf a0 a1 a2 a3 a4 a5 a6 a7 b h).K d c :=
    Finset.sum_congr rfl fun d _ => mul_comm _ _
  rw [e]
  rfl

/-- The new position's score. -/
theorem snV_at (b : Fin 12) (h : Fin 32) :
    snV a0 a1 (ix5 b 0 (grp h) (sub h) 0) = (headOf a0 a1 a2 a3 a4 a5 a6 a7 b h).sNew := by
  pointwise [snV, id_eq]
  simp only [qV_at, codeF_at, scaleV_at]
  have e : ∑ d, code (fun d => a1 (ix4 b 0 (grp h) d)) d * a0 (ix3 b 0 (qcol h d))
      = ∑ d, (headOf a0 a1 a2 a3 a4 a5 a6 a7 b h).q d * code (headOf a0 a1 a2 a3 a4 a5 a6 a7 b h).kn d :=
    Finset.sum_congr rfl fun d _ => mul_comm _ _
  have e1 : IntOp.cmpi .sle 0#32 0#32 = 1#1 := by decide
  rw [e, e1]
  exact if_pos rfl

/-! ### The exponentials and the probabilities -/

/-- The largest score. -/
def mxV : FVec Ideal S12x1x8x4x1 .f32 :=
  maximumf (broadcastInDim S12x1x8x4x1 ![0, 1, 2, 3] bcast_S12x1x8x4_S12x1x8x4x1_0_1_2_3
      (Host.reduce FloatOps.maximumf (scV a0 a3 a4 a7) (constant (F := Ideal) S_ .f32 0xFF800000#32) reducesTo_S12x1x8x4x4096_S12x1x8x4_d4 h_S_))
    (broadcastInDim S12x1x8x4x1 ![0, 1, 2, 3] bcast_S12x1x8x4_S12x1x8x4x1_0_1_2_3
      (Host.reduce FloatOps.maximumf (snV a0 a1) (constant (F := Ideal) S_ .f32 0xFF800000#32) reducesTo_S12x1x8x4x1_S12x1x8x4_d4 h_S_))

/-- The exponentials of the past positions' scores. -/
def ecV : FVec Ideal S12x1x8x4x4096 .f32 :=
  Host.exp (subf (scV a0 a3 a4 a7) (broadcastInDim S12x1x8x4x4096 ![0, 1, 2, 3, 4] bcast_S12x1x8x4x1_S12x1x8x4x4096_0_1_2_3_4 (mxV a0 a1 a3 a4 a7)))

/-- The exponential of the new position's score. -/
def enV : FVec Ideal S12x1x8x4x1 .f32 := Host.exp (subf (snV a0 a1) (mxV a0 a1 a3 a4 a7))

/-- One over the sum of the exponentials. -/
def invV : FVec Ideal S12x1x8x4x1 .f32 :=
  Host.divf (broadcastInDim S12x1x8x4x1 ![] bcast_S_S12x1x8x4x1 (constant (F := Ideal) S_ .f32 0x3F800000#32))
    (addf (broadcastInDim S12x1x8x4x1 ![0, 1, 2, 3] bcast_S12x1x8x4_S12x1x8x4x1_0_1_2_3
        (Host.reduceAdd (ecV a0 a1 a3 a4 a7) (constant (F := Ideal) S_ .f32 0x00000000#32) reducesTo_S12x1x8x4x4096_S12x1x8x4_d4 h_S_))
      (broadcastInDim S12x1x8x4x1 ![0, 1, 2, 3] bcast_S12x1x8x4_S12x1x8x4x1_0_1_2_3
        (Host.reduceAdd (enV a0 a1 a3 a4 a7) (constant (F := Ideal) S_ .f32 0x00000000#32) reducesTo_S12x1x8x4x1_S12x1x8x4_d4 h_S_)))

/-- The probabilities of the past positions and of the new one. -/
def pcV : FVec Ideal S12x1x8x4x4096 .f32 :=
  mulf (ecV a0 a1 a3 a4 a7) (broadcastInDim S12x1x8x4x4096 ![0, 1, 2, 3, 4] bcast_S12x1x8x4x1_S12x1x8x4x4096_0_1_2_3_4 (invV a0 a1 a3 a4 a7))
/-- The new position's probability. -/
def pnV : FVec Ideal S12x1x8x4x1 .f32 := mulf (enV a0 a1 a3 a4 a7) (invV a0 a1 a3 a4 a7)

/-- The largest score. -/
theorem mxV_at (b : Fin 12) (h : Fin 32) :
    mxV a0 a1 a3 a4 a7 (ix5 b 0 (grp h) (sub h) 0) = (headOf a0 a1 a2 a3 a4 a5 a6 a7 b h).mx := by
  pointwise [mxV]
  simp only [Finset.univ_unique, Fin.default_eq_zero, Finset.fold_singleton, scV_at a0 a1 a2 a3 a4 a5 a6 a7, snV_at a0 a1 a2 a3 a4 a5 a6 a7]
  rw [ofBits_neg_inf, max_bot_right, max_comm]
  unfold Head.mx
  rw [ofBits_neg_inf]

/-- The past positions' exponentials. -/
theorem ecV_at (b : Fin 12) (h : Fin 32) (c : Fin 4096) :
    ecV a0 a1 a3 a4 a7 (ix5 b 0 (grp h) (sub h) c) = (headOf a0 a1 a2 a3 a4 a5 a6 a7 b h).e c := by
  pointwise [ecV]
  rw [scV_at a0 a1 a2 a3 a4 a5 a6 a7, mxV_at a0 a1 a2 a3 a4 a5 a6 a7]
  rfl

/-- The new position's exponential. -/
theorem enV_at (b : Fin 12) (h : Fin 32) :
    enV a0 a1 a3 a4 a7 (ix5 b 0 (grp h) (sub h) 0) = (headOf a0 a1 a2 a3 a4 a5 a6 a7 b h).eNew := by
  pointwise [enV]
  rw [snV_at a0 a1 a2 a3 a4 a5 a6 a7, mxV_at a0 a1 a2 a3 a4 a5 a6 a7]
  rfl

/-- The reciprocal of the sum of the exponentials. -/
theorem invV_at (b : Fin 12) (h : Fin 32) :
    invV a0 a1 a3 a4 a7 (ix5 b 0 (grp h) (sub h) 0) = (headOf a0 a1 a2 a3 a4 a5 a6 a7 b h).inv := by
  pointwise [invV]
  simp only [Fin.sum_univ_one, ecV_at a0 a1 a2 a3 a4 a5 a6 a7, enV_at a0 a1 a2 a3 a4 a5 a6 a7]
  rw [add_comm]
  rfl

/-- The past positions' probabilities. -/
theorem pcV_at (b : Fin 12) (h : Fin 32) (c : Fin 4096) :
    pcV a0 a1 a3 a4 a7 (ix5 b 0 (grp h) (sub h) c) = (headOf a0 a1 a2 a3 a4 a5 a6 a7 b h).p c := by
  pointwise [pcV]
  rw [ecV_at a0 a1 a2 a3 a4 a5 a6 a7, invV_at a0 a1 a2 a3 a4 a5 a6 a7]
  rfl

/-- The new position's probability. -/
theorem pnV_at (b : Fin 12) (h : Fin 32) :
    pnV a0 a1 a3 a4 a7 (ix5 b 0 (grp h) (sub h) 0) = (headOf a0 a1 a2 a3 a4 a5 a6 a7 b h).pNew := by
  pointwise [pnV]
  rw [enV_at a0 a1 a2 a3 a4 a5 a6 a7, invV_at a0 a1 a2 a3 a4 a5 a6 a7]
  rfl

/-! ### The results -/

/-- The attention output. -/
def outV : FVec Ideal S12x1x8x4x96 .bf16 :=
  truncf .bf16 (addf
    (transpose S12x1x8x4x96 [0, 3, 1, 4, 2] (Host.dotGeneral dot_S12x4096x8x96_S12x1x8x4x4096_S12x8x96x1x4_1_4_3_13_02_02 none
      (sitofp (F := Ideal) .bf16 (extsi 32 a5 natLt_8_32))
      (truncf .bf16 (mulf (pcV a0 a1 a3 a4 a7)
        (broadcastInDim S12x1x8x4x4096 ![0, 1, 2, 3, 4] bcast_S12x1x8x1x4096_S12x1x8x4x4096_0_1_2_3_4
          (broadcastInDim S12x1x8x1x4096 ![0, 2, 4] bcast_S12x8x4096_S12x1x8x1x4096_0_2_4
            (transpose S12x8x4096 [0, 2, 1] a6 transposes_S12x4096x8_S12x8x4096_0_2_1)))) bitsLt_bf16_f32))
      transposes_S12x8x96x1x4_S12x1x8x4x96_0_3_1_4_2)
    (transpose S12x1x8x4x96 [0, 3, 1, 4, 2] (Host.dotGeneral dot_S12x1x8x96_S12x1x8x4x1_S12x8x96x1x4_1_4_3_13_02_02 none
      (codeF a2)
      (truncf .bf16 (mulf (pnV a0 a1 a3 a4 a7)
        (broadcastInDim S12x1x8x4x1 ![0, 1, 2, 3, 4] bcast_S12x1x8x1x1_S12x1x8x4x1_0_1_2_3_4
          (broadcastInDim S12x1x8x1x1 ![0, 2, 4] bcast_S12x8x1_S12x1x8x1x1_0_2_4
            (transpose S12x8x1 [0, 2, 1] (id (scaleV a2)) transposes_S12x1x8_S12x8x1_0_2_1)))) bitsLt_bf16_f32))
      transposes_S12x8x96x1x4_S12x1x8x4x96_0_3_1_4_2)) bitsLt_bf16_f32

/-- The attention output, at an index. -/
theorem outV_at (b : Fin 12) (h : Fin 32) (d : Fin 96) :
    outV a0 a1 a2 a3 a4 a5 a6 a7 (ix5 b 0 (grp h) (sub h) d) = (headOf a0 a1 a2 a3 a4 a5 a6 a7 b h).o d := by
  pointwise [outV, id_eq]
  simp only [Fin.sum_univ_one, widened, pcV_at a0 a1 a2 a3 a4 a5 a6 a7, pnV_at a0 a1 a2 a3 a4 a5 a6 a7, codeF_at, scaleV_at]
  refine congrArg₂ (fun a b : EReal => a + b) (Finset.sum_congr rfl fun c _ => mul_comm _ _) (mul_comm _ _)

/-- The attention output, as a whole array. -/
theorem out_eq : (shapeCast S12x32x96 (outV a0 a1 a2 a3 a4 a5 a6 a7) shapeCasts_S12x1x8x4x96_S12x32x96 : FVec Ideal S12x32x96 .bf16)
    = outArr a0 a1 a2 a3 a4 a5 a6 a7 := by
  funext j
  obtain ⟨b, h, d, rfl⟩ := (⟨j 0, j 1, j 2, eq_ix3 (n0 := 12) j⟩ : ∃ (b : Fin 12) (h : Fin 32) (d : Fin 96), j = ix3 b h d)
  show _ = (headOf a0 a1 a2 a3 a4 a5 a6 a7 b h).o d
  rw [← outV_at]
  pointwise []
  rfl

/-- The updated importances, as a whole array. -/
theorem imp_eq : (addf a8 (shapeCast S12x32x4096 (Host.reduceAdd (pcV a0 a1 a3 a4 a7) (constant (F := Ideal) S_ .f32 0x00000000#32)
      reducesTo_S12x1x8x4x4096_S12x8x4x4096_d1 h_S_) shapeCasts_S12x8x4x4096_S12x32x4096) : FVec Ideal S12x32x4096 .f32)
    = impArr a0 a1 a2 a3 a4 a5 a6 a7 a8 := by
  funext j
  obtain ⟨b, h, d, rfl⟩ := (⟨j 0, j 1, j 2, eq_ix3 (n0 := 12) j⟩ : ∃ (b : Fin 12) (h : Fin 32) (d : Fin 4096), j = ix3 b h d)
  show _ = a8 (ix3 b h d) + (headOf a0 a1 a2 a3 a4 a5 a6 a7 b h).p d
  rw [← pcV_at]
  pointwise []
  rw [Fin.sum_univ_one]
  rfl

/-- The new position's probabilities, as a whole array. -/
theorem new_eq : (shapeCast S12x32x1 (Host.reduceAdd (pnV a0 a1 a3 a4 a7) (constant (F := Ideal) S_ .f32 0x00000000#32)
      reducesTo_S12x1x8x4x1_S12x8x4x1_d1 h_S_) shapeCasts_S12x8x4x1_S12x32x1 : FVec Ideal S12x32x1 .f32)
    = newArr a0 a1 a2 a3 a4 a5 a6 a7 := by
  funext j
  obtain ⟨b, h, d, rfl⟩ := (⟨j 0, j 1, j 2, eq_ix3 (n0 := 12) j⟩ : ∃ (b : Fin 12) (h : Fin 32) (d : Fin 1), j = ix3 b h d)
  obtain rfl := Fin.fin_one_eq_zero d
  show _ = (headOf a0 a1 a2 a3 a4 a5 a6 a7 b h).pNew
  rw [← pnV_at]
  pointwise []
  rw [Fin.sum_univ_one]
  rfl

/-- The codes, as a whole array. -/
theorem code_eq (x : FVec Ideal S12x1x8x96 .bf16) : (shapeCast S12x8x96 (codeV x) shapeCasts_S12x1x8x96_S12x8x96 : IVec S12x8x96 8) = codeArr x := by
  funext j
  obtain ⟨b, g, d, rfl⟩ := (⟨j 0, j 1, j 2, eq_ix3 (n0 := 12) j⟩ : ∃ (b : Fin 12) (h : Fin 8) (d : Fin 96), j = ix3 b h d)
  show _ = Ideal.fptosi 8 (code (fun d => x (ix4 b 0 g d)) d)
  rw [← codeV_at]
  pointwise []

/-- The scales, as a whole array. -/
theorem scale_eq (x : FVec Ideal S12x1x8x96 .bf16) : (shapeCast S12x8x1 (id (scaleV x)) shapeCasts_S12x1x8_S12x8x1 : FVec Ideal S12x8x1 .f32) = scaleArr x := by
  funext j
  obtain ⟨b, g, d, rfl⟩ := (⟨j 0, j 1, j 2, eq_ix3 (n0 := 12) j⟩ : ∃ (b : Fin 12) (h : Fin 8) (d : Fin 1), j = ix3 b h d)
  obtain rfl := Fin.fin_one_eq_zero d
  show _ = scale fun d => x (ix4 b 0 g d)
  rw [← scaleV_at]
  pointwise [id_eq]

end Cert.Proof.Ref
-- ==== Proof.RefRun.lean ====
/- The reference's run: its seven results as functions of the argument arrays. -/
module

public import proofs.«01_k».proof.Proof.Ref

@[expose] public section
set_option maxRecDepth 16384
noncomputable section
namespace Cert.Proof.Ref
open Cert.ReferenceIdeal Cert.ReferenceIdeal.Gen
open Idealize.ShloMosaic Idealize.ShloMosaic.TcCoe Idealize.SL.Sem

variable (m : (ℓ : Loc nD τ sig) → Buf (Elt Ideal) ℓ) (ρ : Dev nD → PrngReg)

/-- The composed term of the reference's first result is the attention output. -/
theorem res_out (c : Dev nD) : Value.res_main_v113 m c = (outArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) : Vec Ideal S12x32x96 .bf16) := by
  unfold Value.res_main_v113
  exact out_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))

/-- The composed term of its second is the importances with the past positions' probabilities added. -/
theorem res_imp (c : Dev nD) : Value.res_main_v110 m c = (impArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) : Vec Ideal S12x32x4096 .f32) := by
  unfold Value.res_main_v110
  exact imp_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))

/-- The composed term of its third is the new position's probabilities. -/
theorem res_new (c : Dev nD) : Value.res_main_v112 m c = (newArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) : Vec Ideal S12x32x1 .f32) := by
  unfold Value.res_main_v112
  exact new_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))

/-- The reference's run: every result is its function of the arguments, which stay as launched. -/
theorem run : θ_run defs (onTc (τ := τ) (main (F := Ideal))) ⟨m, fun _ => 0, ρ⟩ fun r => ∀ c : Dev nD,
      r.2.mem ((c.tc : Thread nD τ).loc main_v113) = (outArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) : Vec Ideal S12x32x96 .bf16)
      ∧ r.2.mem ((c.tc : Thread nD τ).loc main_v110) = (impArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) : Vec Ideal S12x32x4096 .f32)
      ∧ r.2.mem ((c.tc : Thread nD τ).loc main_v112) = (newArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) : Vec Ideal S12x32x1 .f32)
      ∧ r.2.mem ((c.tc : Thread nD τ).loc main_v114) = (codeArr (m ((c.tc : Thread nD τ).loc main_arg1)) : Vec Ideal S12x8x96 .i8)
      ∧ r.2.mem ((c.tc : Thread nD τ).loc main_v115) = (scaleArr (m ((c.tc : Thread nD τ).loc main_arg1)) : Vec Ideal S12x8x1 .f32)
      ∧ r.2.mem ((c.tc : Thread nD τ).loc main_v116) = (codeArr (m ((c.tc : Thread nD τ).loc main_arg2)) : Vec Ideal S12x8x96 .i8)
      ∧ r.2.mem ((c.tc : Thread nD τ).loc main_v117) = (scaleArr (m ((c.tc : Thread nD τ).loc main_arg2)) : Vec Ideal S12x8x1 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => by
    obtain ⟨e0, e1, e2, e3, e4, e5, e6, hk⟩ := h c
    exact ⟨e0.trans (res_out m c), e1.trans (res_imp m c), e2.trans (res_new m c), e3.trans (code_eq _), e4.trans (scale_eq _),
      e5.trans (code_eq _), e6.trans (scale_eq _), hk⟩) (Value.run m ρ)

end Cert.Proof.Ref
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Arrays
public import proofs.«01_k».proof.Proof.RefRun
public import Idealize.ShloMosaic.Adequacy
public import Idealize.ShloMosaic.Init

@[expose] public section

noncomputable section

namespace Cert.Proof

open Idealize.ShloMosaic Idealize.SL.Sem

/-- The reference terminates without fault, leaves its arguments unchanged and, since it declares no semaphore, every counter at zero. -/
theorem frame_reference : Cert.quiescent_ReferenceIdeal := by
  intro m ρ _
  exact (θ_run Cert.ReferenceIdeal.defs _ _).mono (fun r h => ⟨fun c => (h c).2.2.2.2.2.2.2,
    Idealize.ShloMosaic.sem_eq_zero_of_no_sems (by decide) r.2⟩) (Cert.ReferenceIdeal.Value.run m ρ)

/-- From memories that agree on the arguments, kernel and reference end with the same seven results: both are the attention output,
    the two importances, and the codes and scales of the new rows, as functions of the argument arrays. -/
theorem algebraic : Cert.algebraic_KernelIdeal_ReferenceIdeal := by
  intro m ρ m' ρ' _ hag
  refine ⟨fun c => outArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => impArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => newArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => codeArr (m ((c.tc : Thread Cert.KernelIdeal.nD Cert.KernelIdeal.τ).loc Cert.KernelIdeal.main_arg1)),
    fun c => scaleArr (m ((c.tc : Thread Cert.KernelIdeal.nD Cert.KernelIdeal.τ).loc Cert.KernelIdeal.main_arg1)),
    fun c => codeArr (m ((c.tc : Thread Cert.KernelIdeal.nD Cert.KernelIdeal.τ).loc Cert.KernelIdeal.main_arg2)),
    fun c => scaleArr (m ((c.tc : Thread Cert.KernelIdeal.nD Cert.KernelIdeal.τ).loc Cert.KernelIdeal.main_arg2)),
    Arrays.run m ρ, (θ_run Cert.ReferenceIdeal.defs _ _).mono (fun r h c => ?_) (Ref.run m' ρ')⟩
  obtain ⟨g0, g1, g2, g3, g4, g5, g6, g7, g8⟩ := hag c
  obtain ⟨e0, e1, e2, e3, e4, e5, e6, hk⟩ := h c
  exact ⟨e0.trans (by rw [g0, g1, g2, g3, g4, g5, g6, g7]), e1.trans (by rw [g0, g1, g2, g3, g4, g5, g6, g7, g8]),
    e2.trans (by rw [g0, g1, g2, g3, g4, g5, g6, g7]), e3.trans (by rw [g1]), e4.trans (by rw [g1]), e5.trans (by rw [g2]),
    e6.trans (by rw [g2]), hk⟩

/-- Everything that is claimed: the three frames, the ideal program as the kernel's own, and the equality of the results. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, algebraic⟩

end Cert.Proof

end
